-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 256]⟩ ⟨2, ![8192, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x256 : Shape := ⟨2, ![8192, 256]⟩
abbrev S16 : Shape := ⟨1, ![16]⟩
abbrev S15x16 : Shape := ⟨2, ![15, 16]⟩
abbrev S_ : Shape := ⟨0, ![]⟩
abbrev S1 : Shape := ⟨1, ![1]⟩
abbrev S15x1 : Shape := ⟨2, ![15, 1]⟩
abbrev S15 : Shape := ⟨1, ![15]⟩
abbrev S3 : Shape := ⟨1, ![3]⟩
abbrev S33 : Shape := ⟨1, ![33]⟩
abbrev S2x256x8192 : Shape := ⟨3, ![2, 256, 8192]⟩
abbrev S4x128x8192 : Shape := ⟨3, ![4, 128, 8192]⟩
abbrev S2x2 : Shape := ⟨2, ![2, 2]⟩
abbrev S4 : Shape := ⟨1, ![4]⟩
abbrev S2 : Shape := ⟨1, ![2]⟩
abbrev S1x128x8192 : Shape := ⟨3, ![1, 128, 8192]⟩
abbrev S128x8192 : Shape := ⟨2, ![128, 8192]⟩
abbrev S1x1 : Shape := ⟨2, ![1, 1]⟩
abbrev S1x256x8192 : Shape := ⟨3, ![1, 256, 8192]⟩
abbrev S256x8192 : Shape := ⟨2, ![256, 8192]⟩
abbrev S256x256 : Shape := ⟨2, ![256, 256]⟩
abbrev S128x256 : Shape := ⟨2, ![128, 256]⟩

abbrev nBuf : Space → Nat
  | .hbm => 62
  | .vmem => 6
  | .smem => 1
  | _ => 0

abbrev bufTy : (tb : Table) → Fin (tcTables nBuf tb) → BufTy
  | .hbm, ⟨0, _⟩ => ⟨S512x8192, .f32⟩
  | .hbm, ⟨1, _⟩ => ⟨S8192x256, .f32⟩
  | .hbm, ⟨2, _⟩ => ⟨S16, .i32⟩
  | .hbm, ⟨3, _⟩ => ⟨S16, .i32⟩
  | .hbm, ⟨4, _⟩ => ⟨S15x16, .i32⟩
  | .hbm, ⟨5, _⟩ => ⟨S15x16, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S15x1, .i32⟩
  | .hbm, ⟨40, _⟩ => ⟨S15, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S15x1, .i32⟩
  | .hbm, ⟨55, _⟩ => ⟨S15, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S3, .i32⟩
  | .hbm, ⟨60, _⟩ => ⟨S33, .i32⟩
  | .hbm, ⟨61, _⟩ => ⟨S8192x256, .f32⟩
  | .local _ .vmem, ⟨0, _⟩ => ⟨S8192x256, .f32⟩
  | .local _ .vmem, ⟨1, _⟩ => ⟨S2x256x8192, .bf16⟩
  | .local _ .vmem, ⟨2, _⟩ => ⟨S2x256x8192, .bf16⟩
  | .local _ .vmem, ⟨3, _⟩ => ⟨S8192x256, .bf16⟩
  | .local _ .vmem, ⟨4, _⟩ => ⟨S4x128x8192, .f32⟩
  | .local _ .vmem, ⟨5, _⟩ => ⟨S8192x256, .f32⟩
  | .local _ .smem, ⟨0, _⟩ => ⟨S33, .i32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_5 : Ref sig .tc := ⟨.hbm, 12, rfl⟩
abbrev main_v5 : Ref sig .tc := ⟨.hbm, 13, rfl⟩
abbrev main_c_6 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_7 : Ref sig .tc := ⟨.hbm, 19, rfl⟩
abbrev main_v10 : Ref sig .tc := ⟨.hbm, 20, rfl⟩
abbrev main_c_8 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_9 : Ref sig .tc := ⟨.hbm, 26, rfl⟩
abbrev main_c_10 : Ref sig .tc := ⟨.hbm, 27, rfl⟩
abbrev main_v15 : Ref sig .tc := ⟨.hbm, 28, rfl⟩
abbrev main_c_11 : Ref sig .tc := ⟨.hbm, 29, rfl⟩
abbrev main_c_12 : Ref sig .tc := ⟨.hbm, 30, rfl⟩
abbrev main_v16 : Ref sig .tc := ⟨.hbm, 31, rfl⟩
abbrev main_c_13 : Ref sig .tc := ⟨.hbm, 32, rfl⟩
abbrev main_v17 : Ref sig .tc := ⟨.hbm, 33, rfl⟩
abbrev main_c_14 : Ref sig .tc := ⟨.hbm, 34, rfl⟩
abbrev main_v18 : Ref sig .tc := ⟨.hbm, 35, rfl⟩
abbrev main_c_15 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_16 : Ref sig .tc := ⟨.hbm, 41, rfl⟩
abbrev main_c_17 : Ref sig .tc := ⟨.hbm, 42, rfl⟩
abbrev main_v23 : Ref sig .tc := ⟨.hbm, 43, rfl⟩
abbrev main_c_18 : Ref sig .tc := ⟨.hbm, 44, rfl⟩
abbrev main_c_19 : Ref sig .tc := ⟨.hbm, 45, rfl⟩
abbrev main_v24 : Ref sig .tc := ⟨.hbm, 46, rfl⟩
abbrev main_c_20 : Ref sig .tc := ⟨.hbm, 47, rfl⟩
abbrev main_v25 : Ref sig .tc := ⟨.hbm, 48, rfl⟩
abbrev main_c_21 : Ref sig .tc := ⟨.hbm, 49, rfl⟩
abbrev main_v26 : Ref sig .tc := ⟨.hbm, 50, rfl⟩
abbrev main_c_22 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev barrier0 : Sem sig := 4

abbrev nD : Nat := 16
abbrev τ : Topo := Topo.v7x

variable {F : FTy → Type} [FloatOps F]

abbrev grid0 : Pipeline.Grid := .none

def k0_dev1 (v2 : BitVec 32) : Nat :=
  let c0_i32_19 : BitVec 32 := 0#32
  let c1_i32_18 : BitVec 32 := 1#32
  let v24 : BitVec 32 := Scalar.muli v2 c1_i32_18
  let v25 : BitVec 32 := Scalar.addi c0_i32_19 v24
  v25.toNat

def k0_dev2 (v1 : BitVec 32) : Nat :=
  let c0_i32_22 : BitVec 32 := 0#32
  let c1_i32_21 : BitVec 32 := 1#32
  let v26 : BitVec 32 := Scalar.muli v1 c1_i32_21
  let v27 : BitVec 32 := Scalar.addi c0_i32_22 v26
  v27.toNat

def k0_dev3 (v1 : BitVec 32) : Nat :=
  let c0_i32_43 : BitVec 32 := 0#32
  let c1_i32_42 : BitVec 32 := 1#32
  let v39 : BitVec 32 := Scalar.muli v1 c1_i32_42
  let v40 : BitVec 32 := Scalar.addi c0_i32_43 v39
  v40.toNat
def k0_dev4 (v2 : BitVec 32) : Nat :=
  let c0_i32_67 : BitVec 32 := 0#32
  let c1_i32_66 : BitVec 32 := 1#32
  let v60 : BitVec 32 := Scalar.muli v2 c1_i32_66
  let v61 : BitVec 32 := Scalar.addi c0_i32_67 v60
  v61.toNat
def k0_dev5 (v1 : BitVec 32) : Nat :=
  let c0_i32_90 : BitVec 32 := 0#32
  let c1_i32_89 : BitVec 32 := 1#32
  let v81 : BitVec 32 := Scalar.muli v1 c1_i32_89
  let v82 : BitVec 32 := Scalar.addi c0_i32_90 v81
  v82.toNat
def k0_dev6 (v2 : BitVec 32) : Nat :=
  let c0_i32_113 : BitVec 32 := 0#32
  let c1_i32_112 : BitVec 32 := 1#32
  let v102 : BitVec 32 := Scalar.muli v2 c1_i32_112
  let v103 : BitVec 32 := Scalar.addi c0_i32_113 v102
  v103.toNat
def k0_off1 (v0 : BitVec 32) : Fin 2 → Nat :=
  let c512_i32 : BitVec 32 := 512#32
  let v134 : BitVec 32 := Scalar.muli v0 c512_i32
  let v135 : Index := Scalar.indexCast v134
  let c0_131 : Index := 0#32
  ![v135.toNat, 0]

def k0_off2 (v0 : BitVec 32) : Fin 2 → Nat :=
  let c512_i32_142 : BitVec 32 := 512#32
  let v154 : BitVec 32 := Scalar.muli v0 c512_i32_142
  let c256_i32_143 : BitVec 32 := 256#32
  let v155 : BitVec 32 := Scalar.addi v154 c256_i32_143
  let v156 : Index := Scalar.indexCast v155
  let c0_144 : Index := 0#32
  ![v156.toNat, 0]

def k0_chk3 (v0 : BitVec 32) : Prop :=
  (∀ a, (k0_off1 v0) a + S256x256.size a ≤ S8192x256.size a) ∧
  (∀ a, (k0_off2 v0) a + S256x256.size a ≤ S8192x256.size a)
theorem k0_off1_inb : ∀ (v0 : BitVec 32) (k0_hw3 : k0_chk3 v0), ∀ a, (k0_off1 v0) a + S256x256.size a ≤ S8192x256.size a := fun v0 k0_hw3 => k0_hw3.1
theorem k0_off2_inb : ∀ (v0 : BitVec 32) (k0_hw3 : k0_chk3 v0), ∀ a, (k0_off2 v0) a + S256x256.size a ≤ S8192x256.size a := fun v0 k0_hw3 => k0_hw3.2

def k0_dev7 (v2 : BitVec 32) : Nat :=
  let c0_i32_171 : BitVec 32 := 0#32
  let c1_i32_170 : BitVec 32 := 1#32
  let v174 : BitVec 32 := Scalar.muli v2 c1_i32_170
  let v175 : BitVec 32 := Scalar.addi c0_i32_171 v174
  v175.toNat
def k0_dev8 (v1 : BitVec 32) : Nat :=
  let c0_i32_182 : BitVec 32 := 0#32
  let c1_i32_181 : BitVec 32 := 1#32
  let v178 : BitVec 32 := Scalar.muli v1 c1_i32_181
  let v179 : BitVec 32 := Scalar.addi c0_i32_182 v178
  v179.toNat
def k0_dev9 (v2 : BitVec 32) : Nat :=
  let c0_i32_213 : BitVec 32 := 0#32
  let c1_i32_212 : BitVec 32 := 1#32
  let v204 : BitVec 32 := Scalar.muli v2 c1_i32_212
  let v205 : BitVec 32 := Scalar.addi c0_i32_213 v204
  v205.toNat
def k0_dev10 (v1 : BitVec 32) : Nat :=
  let c0_i32_224 : BitVec 32 := 0#32
  let c1_i32_223 : BitVec 32 := 1#32
  let v208 : BitVec 32 := Scalar.muli v1 c1_i32_223
  let v209 : BitVec 32 := Scalar.addi c0_i32_224 v208
  v209.toNat
def k0_dev11 (v1 : BitVec 32) : Nat :=
  let c0_i32_255 : BitVec 32 := 0#32
  let c1_i32_254 : BitVec 32 := 1#32
  let v234 : BitVec 32 := Scalar.muli v1 c1_i32_254
  let v235 : BitVec 32 := Scalar.addi c0_i32_255 v234
  v235.toNat
def k0_dev12 (v2 : BitVec 32) : Nat :=
  let c0_i32_266 : BitVec 32 := 0#32
  let c1_i32_265 : BitVec 32 := 1#32
  let v238 : BitVec 32 := Scalar.muli v2 c1_i32_265
  let v239 : BitVec 32 := Scalar.addi c0_i32_266 v238
  v239.toNat
def k0_dev13 (v1 : BitVec 32) : Nat :=
  let c0_i32_297 : BitVec 32 := 0#32
  let c1_i32_296 : BitVec 32 := 1#32
  let v264 : BitVec 32 := Scalar.muli v1 c1_i32_296
  let v265 : BitVec 32 := Scalar.addi c0_i32_297 v264
  v265.toNat
def k0_dev14 (v2 : BitVec 32) : Nat :=
  let c0_i32_308 : BitVec 32 := 0#32
  let c1_i32_307 : BitVec 32 := 1#32
  let v268 : BitVec 32 := Scalar.muli v2 c1_i32_307
  let v269 : BitVec 32 := Scalar.addi c0_i32_308 v268
  v269.toNat
def k0_off3 (v295 : BitVec 32) : Fin 2 → Nat :=
  let c512_i32_324 : BitVec 32 := 512#32
  let v296 : BitVec 32 := Scalar.muli v295 c512_i32_324
  let v297 : Index := Scalar.indexCast v296
  let c0_325 : Index := 0#32
  ![v297.toNat, 0]

def k0_chk4 (v295 : BitVec 32) : Prop :=
  (∀ a, (k0_off3 v295) a + S256x256.size a ≤ S8192x256.size a)
theorem k0_off3_inb : ∀ (v295 : BitVec 32) (k0_hw4 : k0_chk4 v295), ∀ a, (k0_off3 v295) a + S256x256.size a ≤ S8192x256.size a := fun v295 k0_hw4 => k0_hw4

def k0_off4 (v316 : BitVec 32) : Fin 2 → Nat :=
  let c512_i32_336 : BitVec 32 := 512#32
  let v317 : BitVec 32 := Scalar.muli v316 c512_i32_336
  let c256_i32_337 : BitVec 32 := 256#32
  let v318 : BitVec 32 := Scalar.addi v317 c256_i32_337
  let v319 : Index := Scalar.indexCast v318
  let c0_338 : Index := 0#32
  ![v319.toNat, 0]

def k0_chk5 (v316 : BitVec 32) : Prop :=
  (∀ a, (k0_off4 v316) a + S256x256.size a ≤ S8192x256.size a)
theorem k0_off4_inb : ∀ (v316 : BitVec 32) (k0_hw5 : k0_chk5 v316), ∀ a, (k0_off4 v316) a + S256x256.size a ≤ S8192x256.size a := fun v316 k0_hw5 => k0_hw5

def k0_dev15 (v2 : BitVec 32) : Nat :=
  let c0_i32_365 : BitVec 32 := 0#32
  let c1_i32_364 : BitVec 32 := 1#32
  let v337 : BitVec 32 := Scalar.muli v2 c1_i32_364
  let v338 : BitVec 32 := Scalar.addi c0_i32_365 v337
  v338.toNat
def k0_dev16 (v1 : BitVec 32) : Nat :=
  let c0_i32_376 : BitVec 32 := 0#32
  let c1_i32_375 : BitVec 32 := 1#32
  let v341 : BitVec 32 := Scalar.muli v1 c1_i32_375
  let v342 : BitVec 32 := Scalar.addi c0_i32_376 v341
  v342.toNat
def k0_dev17 (v2 : BitVec 32) : Nat :=
  let c0_i32_407 : BitVec 32 := 0#32
  let c1_i32_406 : BitVec 32 := 1#32
  let v367 : BitVec 32 := Scalar.muli v2 c1_i32_406
  let v368 : BitVec 32 := Scalar.addi c0_i32_407 v367
  v368.toNat
def k0_dev18 (v1 : BitVec 32) : Nat :=
  let c0_i32_418 : BitVec 32 := 0#32
  let c1_i32_417 : BitVec 32 := 1#32
  let v371 : BitVec 32 := Scalar.muli v1 c1_i32_417
  let v372 : BitVec 32 := Scalar.addi c0_i32_418 v371
  v372.toNat
def k0_dev19 (v1 : BitVec 32) : Nat :=
  let c0_i32_449 : BitVec 32 := 0#32
  let c1_i32_448 : BitVec 32 := 1#32
  let v397 : BitVec 32 := Scalar.muli v1 c1_i32_448
  let v398 : BitVec 32 := Scalar.addi c0_i32_449 v397
  v398.toNat
def k0_dev20 (v2 : BitVec 32) : Nat :=
  let c0_i32_460 : BitVec 32 := 0#32
  let c1_i32_459 : BitVec 32 := 1#32
  let v401 : BitVec 32 := Scalar.muli v2 c1_i32_459
  let v402 : BitVec 32 := Scalar.addi c0_i32_460 v401
  v402.toNat
def k0_dev21 (v1 : BitVec 32) : Nat :=
  let c0_i32_491 : BitVec 32 := 0#32
  let c1_i32_490 : BitVec 32 := 1#32
  let v427 : BitVec 32 := Scalar.muli v1 c1_i32_490
  let v428 : BitVec 32 := Scalar.addi c0_i32_491 v427
  v428.toNat
def k0_dev22 (v2 : BitVec 32) : Nat :=
  let c0_i32_502 : BitVec 32 := 0#32
  let c1_i32_501 : BitVec 32 := 1#32
  let v431 : BitVec 32 := Scalar.muli v2 c1_i32_501
  let v432 : BitVec 32 := Scalar.addi c0_i32_502 v431
  v432.toNat
def k0_off5 (v458 : BitVec 32) : Fin 2 → Nat :=
  let c512_i32_517 : BitVec 32 := 512#32
  let v459 : BitVec 32 := Scalar.muli v458 c512_i32_517
  let v460 : Index := Scalar.indexCast v459
  let c0_518 : Index := 0#32
  ![v460.toNat, 0]

def k0_chk6 (v458 : BitVec 32) : Prop :=
  (∀ a, (k0_off5 v458) a + S256x256.size a ≤ S8192x256.size a)
theorem k0_off5_inb : ∀ (v458 : BitVec 32) (k0_hw6 : k0_chk6 v458), ∀ a, (k0_off5 v458) a + S256x256.size a ≤ S8192x256.size a := fun v458 k0_hw6 => k0_hw6

def k0_off6 (v479 : BitVec 32) : Fin 2 → Nat :=
  let c512_i32_529 : BitVec 32 := 512#32
  let v480 : BitVec 32 := Scalar.muli v479 c512_i32_529
  let c256_i32_530 : BitVec 32 := 256#32
  let v481 : BitVec 32 := Scalar.addi v480 c256_i32_530
  let v482 : Index := Scalar.indexCast v481
  let c0_531 : Index := 0#32
  ![v482.toNat, 0]

def k0_chk7 (v479 : BitVec 32) : Prop :=
  (∀ a, (k0_off6 v479) a + S256x256.size a ≤ S8192x256.size a)
theorem k0_off6_inb : ∀ (v479 : BitVec 32) (k0_hw7 : k0_chk7 v479), ∀ a, (k0_off6 v479) a + S256x256.size a ≤ S8192x256.size a := fun v479 k0_hw7 => k0_hw7

def k0_dev23 (v2 : BitVec 32) : Nat :=
  let c0_i32_558 : BitVec 32 := 0#32
  let c1_i32_557 : BitVec 32 := 1#32
  let v500 : BitVec 32 := Scalar.muli v2 c1_i32_557
  let v501 : BitVec 32 := Scalar.addi c0_i32_558 v500
  v501.toNat
def k0_dev24 (v1 : BitVec 32) : Nat :=
  let c0_i32_569 : BitVec 32 := 0#32
  let c1_i32_568 : BitVec 32 := 1#32
  let v504 : BitVec 32 := Scalar.muli v1 c1_i32_568
  let v505 : BitVec 32 := Scalar.addi c0_i32_569 v504
  v505.toNat
def k0_dev25 (v2 : BitVec 32) : Nat :=
  let c0_i32_600 : BitVec 32 := 0#32
  let c1_i32_599 : BitVec 32 := 1#32
  let v530 : BitVec 32 := Scalar.muli v2 c1_i32_599
  let v531 : BitVec 32 := Scalar.addi c0_i32_600 v530
  v531.toNat
def k0_dev26 (v1 : BitVec 32) : Nat :=
  let c0_i32_611 : BitVec 32 := 0#32
  let c1_i32_610 : BitVec 32 := 1#32
  let v534 : BitVec 32 := Scalar.muli v1 c1_i32_610
  let v535 : BitVec 32 := Scalar.addi c0_i32_611 v534
  v535.toNat
def k0_dev27 (v1 : BitVec 32) : Nat :=
  let c0_i32_642 : BitVec 32 := 0#32
  let c1_i32_641 : BitVec 32 := 1#32
  let v560 : BitVec 32 := Scalar.muli v1 c1_i32_641
  let v561 : BitVec 32 := Scalar.addi c0_i32_642 v560
  v561.toNat
def k0_dev28 (v2 : BitVec 32) : Nat :=
  let c0_i32_653 : BitVec 32 := 0#32
  let c1_i32_652 : BitVec 32 := 1#32
  let v564 : BitVec 32 := Scalar.muli v2 c1_i32_652
  let v565 : BitVec 32 := Scalar.addi c0_i32_653 v564
  v565.toNat
def k0_dev29 (v1 : BitVec 32) : Nat :=
  let c0_i32_684 : BitVec 32 := 0#32
  let c1_i32_683 : BitVec 32 := 1#32
  let v590 : BitVec 32 := Scalar.muli v1 c1_i32_683
  let v591 : BitVec 32 := Scalar.addi c0_i32_684 v590
  v591.toNat
def k0_dev30 (v2 : BitVec 32) : Nat :=
  let c0_i32_695 : BitVec 32 := 0#32
  let c1_i32_694 : BitVec 32 := 1#32
  let v594 : BitVec 32 := Scalar.muli v2 c1_i32_694
  let v595 : BitVec 32 := Scalar.addi c0_i32_695 v594
  v595.toNat
def k0_off7 (v621 : BitVec 32) : Fin 2 → Nat :=
  let c512_i32_710 : BitVec 32 := 512#32
  let v622 : BitVec 32 := Scalar.muli v621 c512_i32_710
  let v623 : Index := Scalar.indexCast v622
  let c0_711 : Index := 0#32
  ![v623.toNat, 0]

def k0_chk8 (v621 : BitVec 32) : Prop :=
  (∀ a, (k0_off7 v621) a + S256x256.size a ≤ S8192x256.size a)
theorem k0_off7_inb : ∀ (v621 : BitVec 32) (k0_hw8 : k0_chk8 v621), ∀ a, (k0_off7 v621) a + S256x256.size a ≤ S8192x256.size a := fun v621 k0_hw8 => k0_hw8

def k0_off8 (v642 : BitVec 32) : Fin 2 → Nat :=
  let c512_i32_722 : BitVec 32 := 512#32
  let v643 : BitVec 32 := Scalar.muli v642 c512_i32_722
  let c256_i32_723 : BitVec 32 := 256#32
  let v644 : BitVec 32 := Scalar.addi v643 c256_i32_723
  let v645 : Index := Scalar.indexCast v644
  let c0_724 : Index := 0#32
  ![v645.toNat, 0]

def k0_chk9 (v642 : BitVec 32) : Prop :=
  (∀ a, (k0_off8 v642) a + S256x256.size a ≤ S8192x256.size a)
theorem k0_off8_inb : ∀ (v642 : BitVec 32) (k0_hw9 : k0_chk9 v642), ∀ a, (k0_off8 v642) a + S256x256.size a ≤ S8192x256.size a := fun v642 k0_hw9 => k0_hw9

def k0_dev31 (v2 : BitVec 32) : Nat :=
  let c0_i32_751 : BitVec 32 := 0#32
  let c1_i32_750 : BitVec 32 := 1#32
  let v663 : BitVec 32 := Scalar.muli v2 c1_i32_750
  let v664 : BitVec 32 := Scalar.addi c0_i32_751 v663
  v664.toNat
def k0_dev32 (v1 : BitVec 32) : Nat :=
  let c0_i32_762 : BitVec 32 := 0#32
  let c1_i32_761 : BitVec 32 := 1#32
  let v667 : BitVec 32 := Scalar.muli v1 c1_i32_761
  let v668 : BitVec 32 := Scalar.addi c0_i32_762 v667
  v668.toNat
def k0_dev33 (v2 : BitVec 32) : Nat :=
  let c0_i32_793 : BitVec 32 := 0#32
  let c1_i32_792 : BitVec 32 := 1#32
  let v693 : BitVec 32 := Scalar.muli v2 c1_i32_792
  let v694 : BitVec 32 := Scalar.addi c0_i32_793 v693
  v694.toNat
def k0_dev34 (v1 : BitVec 32) : Nat :=
  let c0_i32_804 : BitVec 32 := 0#32
  let c1_i32_803 : BitVec 32 := 1#32
  let v697 : BitVec 32 := Scalar.muli v1 c1_i32_803
  let v698 : BitVec 32 := Scalar.addi c0_i32_804 v697
  v698.toNat
def k0_dev35 (v1 : BitVec 32) : Nat :=
  let c0_i32_835 : BitVec 32 := 0#32
  let c1_i32_834 : BitVec 32 := 1#32
  let v723 : BitVec 32 := Scalar.muli v1 c1_i32_834
  let v724 : BitVec 32 := Scalar.addi c0_i32_835 v723
  v724.toNat
def k0_dev36 (v2 : BitVec 32) : Nat :=
  let c0_i32_846 : BitVec 32 := 0#32
  let c1_i32_845 : BitVec 32 := 1#32
  let v727 : BitVec 32 := Scalar.muli v2 c1_i32_845
  let v728 : BitVec 32 := Scalar.addi c0_i32_846 v727
  v728.toNat
def k0_dev37 (v1 : BitVec 32) : Nat :=
  let c0_i32_877 : BitVec 32 := 0#32
  let c1_i32_876 : BitVec 32 := 1#32
  let v753 : BitVec 32 := Scalar.muli v1 c1_i32_876
  let v754 : BitVec 32 := Scalar.addi c0_i32_877 v753
  v754.toNat
def k0_dev38 (v2 : BitVec 32) : Nat :=
  let c0_i32_888 : BitVec 32 := 0#32
  let c1_i32_887 : BitVec 32 := 1#32
  let v757 : BitVec 32 := Scalar.muli v2 c1_i32_887
  let v758 : BitVec 32 := Scalar.addi c0_i32_888 v757
  v758.toNat
def k0_off9 (v784 : BitVec 32) : Fin 2 → Nat :=
  let c512_i32_903 : BitVec 32 := 512#32
  let v785 : BitVec 32 := Scalar.muli v784 c512_i32_903
  let v786 : Index := Scalar.indexCast v785
  let c0_904 : Index := 0#32
  ![v786.toNat, 0]

def k0_chk10 (v784 : BitVec 32) : Prop :=
  (∀ a, (k0_off9 v784) a + S256x256.size a ≤ S8192x256.size a)
theorem k0_off9_inb : ∀ (v784 : BitVec 32) (k0_hw10 : k0_chk10 v784), ∀ a, (k0_off9 v784) a + S256x256.size a ≤ S8192x256.size a := fun v784 k0_hw10 => k0_hw10

def k0_off10 (v805 : BitVec 32) : Fin 2 → Nat :=
  let c512_i32_915 : BitVec 32 := 512#32
  let v806 : BitVec 32 := Scalar.muli v805 c512_i32_915
  let c256_i32_916 : BitVec 32 := 256#32
  let v807 : BitVec 32 := Scalar.addi v806 c256_i32_916
  let v808 : Index := Scalar.indexCast v807
  let c0_917 : Index := 0#32
  ![v808.toNat, 0]

def k0_chk11 (v805 : BitVec 32) : Prop :=
  (∀ a, (k0_off10 v805) a + S256x256.size a ≤ S8192x256.size a)
theorem k0_off10_inb : ∀ (v805 : BitVec 32) (k0_hw11 : k0_chk11 v805), ∀ a, (k0_off10 v805) a + S256x256.size a ≤ S8192x256.size a := fun v805 k0_hw11 => k0_hw11

def k0_dev39 (v2 : BitVec 32) : Nat :=
  let c0_i32_944 : BitVec 32 := 0#32
  let c1_i32_943 : BitVec 32 := 1#32
  let v826 : BitVec 32 := Scalar.muli v2 c1_i32_943
  let v827 : BitVec 32 := Scalar.addi c0_i32_944 v826
  v827.toNat
def k0_dev40 (v1 : BitVec 32) : Nat :=
  let c0_i32_955 : BitVec 32 := 0#32
  let c1_i32_954 : BitVec 32 := 1#32
  let v830 : BitVec 32 := Scalar.muli v1 c1_i32_954
  let v831 : BitVec 32 := Scalar.addi c0_i32_955 v830
  v831.toNat
def k0_dev41 (v2 : BitVec 32) : Nat :=
  let c0_i32_986 : BitVec 32 := 0#32
  let c1_i32_985 : BitVec 32 := 1#32
  let v856 : BitVec 32 := Scalar.muli v2 c1_i32_985
  let v857 : BitVec 32 := Scalar.addi c0_i32_986 v856
  v857.toNat
def k0_dev42 (v1 : BitVec 32) : Nat :=
  let c0_i32_997 : BitVec 32 := 0#32
  let c1_i32_996 : BitVec 32 := 1#32
  let v860 : BitVec 32 := Scalar.muli v1 c1_i32_996
  let v861 : BitVec 32 := Scalar.addi c0_i32_997 v860
  v861.toNat
def k0_dev43 (v1 : BitVec 32) : Nat :=
  let c0_i32_1028 : BitVec 32 := 0#32
  let c1_i32_1027 : BitVec 32 := 1#32
  let v886 : BitVec 32 := Scalar.muli v1 c1_i32_1027
  let v887 : BitVec 32 := Scalar.addi c0_i32_1028 v886
  v887.toNat
def k0_dev44 (v2 : BitVec 32) : Nat :=
  let c0_i32_1039 : BitVec 32 := 0#32
  let c1_i32_1038 : BitVec 32 := 1#32
  let v890 : BitVec 32 := Scalar.muli v2 c1_i32_1038
  let v891 : BitVec 32 := Scalar.addi c0_i32_1039 v890
  v891.toNat
def k0_dev45 (v1 : BitVec 32) : Nat :=
  let c0_i32_1070 : BitVec 32 := 0#32
  let c1_i32_1069 : BitVec 32 := 1#32
  let v916 : BitVec 32 := Scalar.muli v1 c1_i32_1069
  let v917 : BitVec 32 := Scalar.addi c0_i32_1070 v916
  v917.toNat
def k0_dev46 (v2 : BitVec 32) : Nat :=
  let c0_i32_1081 : BitVec 32 := 0#32
  let c1_i32_1080 : BitVec 32 := 1#32
  let v920 : BitVec 32 := Scalar.muli v2 c1_i32_1080
  let v921 : BitVec 32 := Scalar.addi c0_i32_1081 v920
  v921.toNat
def k0_off11 (v947 : BitVec 32) : Fin 2 → Nat :=
  let c512_i32_1096 : BitVec 32 := 512#32
  let v948 : BitVec 32 := Scalar.muli v947 c512_i32_1096
  let v949 : Index := Scalar.indexCast v948
  let c0_1097 : Index := 0#32
  ![v949.toNat, 0]

def k0_chk12 (v947 : BitVec 32) : Prop :=
  (∀ a, (k0_off11 v947) a + S256x256.size a ≤ S8192x256.size a)
theorem k0_off11_inb : ∀ (v947 : BitVec 32) (k0_hw12 : k0_chk12 v947), ∀ a, (k0_off11 v947) a + S256x256.size a ≤ S8192x256.size a := fun v947 k0_hw12 => k0_hw12

def k0_off12 (v968 : BitVec 32) : Fin 2 → Nat :=
  let c512_i32_1108 : BitVec 32 := 512#32
  let v969 : BitVec 32 := Scalar.muli v968 c512_i32_1108
  let c256_i32_1109 : BitVec 32 := 256#32
  let v970 : BitVec 32 := Scalar.addi v969 c256_i32_1109
  let v971 : Index := Scalar.indexCast v970
  let c0_1110 : Index := 0#32
  ![v971.toNat, 0]

def k0_chk13 (v968 : BitVec 32) : Prop :=
  (∀ a, (k0_off12 v968) a + S256x256.size a ≤ S8192x256.size a)
theorem k0_off12_inb : ∀ (v968 : BitVec 32) (k0_hw13 : k0_chk13 v968), ∀ a, (k0_off12 v968) a + S256x256.size a ≤ S8192x256.size a := fun v968 k0_hw13 => k0_hw13

def k0_dev47 (v2 : BitVec 32) : Nat :=
  let c0_i32_1137 : BitVec 32 := 0#32
  let c1_i32_1136 : BitVec 32 := 1#32
  let v989 : BitVec 32 := Scalar.muli v2 c1_i32_1136
  let v990 : BitVec 32 := Scalar.addi c0_i32_1137 v989
  v990.toNat
def k0_dev48 (v1 : BitVec 32) : Nat :=
  let c0_i32_1148 : BitVec 32 := 0#32
  let c1_i32_1147 : BitVec 32 := 1#32
  let v993 : BitVec 32 := Scalar.muli v1 c1_i32_1147
  let v994 : BitVec 32 := Scalar.addi c0_i32_1148 v993
  v994.toNat
def k0_dev49 (v2 : BitVec 32) : Nat :=
  let c0_i32_1179 : BitVec 32 := 0#32
  let c1_i32_1178 : BitVec 32 := 1#32
  let v1019 : BitVec 32 := Scalar.muli v2 c1_i32_1178
  let v1020 : BitVec 32 := Scalar.addi c0_i32_1179 v1019
  v1020.toNat
def k0_dev50 (v1 : BitVec 32) : Nat :=
  let c0_i32_1190 : BitVec 32 := 0#32
  let c1_i32_1189 : BitVec 32 := 1#32
  let v1023 : BitVec 32 := Scalar.muli v1 c1_i32_1189
  let v1024 : BitVec 32 := Scalar.addi c0_i32_1190 v1023
  v1024.toNat
def k0_dev51 (v1 : BitVec 32) : Nat :=
  let c0_i32_1221 : BitVec 32 := 0#32
  let c1_i32_1220 : BitVec 32 := 1#32
  let v1049 : BitVec 32 := Scalar.muli v1 c1_i32_1220
  let v1050 : BitVec 32 := Scalar.addi c0_i32_1221 v1049
  v1050.toNat
def k0_dev52 (v2 : BitVec 32) : Nat :=
  let c0_i32_1232 : BitVec 32 := 0#32
  let c1_i32_1231 : BitVec 32 := 1#32
  let v1053 : BitVec 32 := Scalar.muli v2 c1_i32_1231
  let v1054 : BitVec 32 := Scalar.addi c0_i32_1232 v1053
  v1054.toNat
def k0_dev53 (v1 : BitVec 32) : Nat :=
  let c0_i32_1263 : BitVec 32 := 0#32
  let c1_i32_1262 : BitVec 32 := 1#32
  let v1079 : BitVec 32 := Scalar.muli v1 c1_i32_1262
  let v1080 : BitVec 32 := Scalar.addi c0_i32_1263 v1079
  v1080.toNat
def k0_dev54 (v2 : BitVec 32) : Nat :=
  let c0_i32_1274 : BitVec 32 := 0#32
  let c1_i32_1273 : BitVec 32 := 1#32
  let v1083 : BitVec 32 := Scalar.muli v2 c1_i32_1273
  let v1084 : BitVec 32 := Scalar.addi c0_i32_1274 v1083
  v1084.toNat
def k0_off13 (v1110 : BitVec 32) : Fin 2 → Nat :=
  let c512_i32_1289 : BitVec 32 := 512#32
  let v1111 : BitVec 32 := Scalar.muli v1110 c512_i32_1289
  let v1112 : Index := Scalar.indexCast v1111
  let c0_1290 : Index := 0#32
  ![v1112.toNat, 0]

def k0_chk14 (v1110 : BitVec 32) : Prop :=
  (∀ a, (k0_off13 v1110) a + S256x256.size a ≤ S8192x256.size a)
theorem k0_off13_inb : ∀ (v1110 : BitVec 32) (k0_hw14 : k0_chk14 v1110), ∀ a, (k0_off13 v1110) a + S256x256.size a ≤ S8192x256.size a := fun v1110 k0_hw14 => k0_hw14

def k0_off14 (v1131 : BitVec 32) : Fin 2 → Nat :=
  let c512_i32_1301 : BitVec 32 := 512#32
  let v1132 : BitVec 32 := Scalar.muli v1131 c512_i32_1301
  let c256_i32_1302 : BitVec 32 := 256#32
  let v1133 : BitVec 32 := Scalar.addi v1132 c256_i32_1302
  let v1134 : Index := Scalar.indexCast v1133
  let c0_1303 : Index := 0#32
  ![v1134.toNat, 0]

def k0_chk15 (v1131 : BitVec 32) : Prop :=
  (∀ a, (k0_off14 v1131) a + S256x256.size a ≤ S8192x256.size a)
theorem k0_off14_inb : ∀ (v1131 : BitVec 32) (k0_hw15 : k0_chk15 v1131), ∀ a, (k0_off14 v1131) a + S256x256.size a ≤ S8192x256.size a := fun v1131 k0_hw15 => k0_hw15

def k0_dev55 (v2 : BitVec 32) : Nat :=
  let c0_i32_1330 : BitVec 32 := 0#32
  let c1_i32_1329 : BitVec 32 := 1#32
  let v1152 : BitVec 32 := Scalar.muli v2 c1_i32_1329
  let v1153 : BitVec 32 := Scalar.addi c0_i32_1330 v1152
  v1153.toNat
def k0_dev56 (v1 : BitVec 32) : Nat :=
  let c0_i32_1341 : BitVec 32 := 0#32
  let c1_i32_1340 : BitVec 32 := 1#32
  let v1156 : BitVec 32 := Scalar.muli v1 c1_i32_1340
  let v1157 : BitVec 32 := Scalar.addi c0_i32_1341 v1156
  v1157.toNat
def k0_dev57 (v2 : BitVec 32) : Nat :=
  let c0_i32_1372 : BitVec 32 := 0#32
  let c1_i32_1371 : BitVec 32 := 1#32
  let v1182 : BitVec 32 := Scalar.muli v2 c1_i32_1371
  let v1183 : BitVec 32 := Scalar.addi c0_i32_1372 v1182
  v1183.toNat
def k0_dev58 (v1 : BitVec 32) : Nat :=
  let c0_i32_1383 : BitVec 32 := 0#32
  let c1_i32_1382 : BitVec 32 := 1#32
  let v1186 : BitVec 32 := Scalar.muli v1 c1_i32_1382
  let v1187 : BitVec 32 := Scalar.addi c0_i32_1383 v1186
  v1187.toNat
def k0_dev59 (v1 : BitVec 32) : Nat :=
  let c0_i32_1414 : BitVec 32 := 0#32
  let c1_i32_1413 : BitVec 32 := 1#32
  let v1212 : BitVec 32 := Scalar.muli v1 c1_i32_1413
  let v1213 : BitVec 32 := Scalar.addi c0_i32_1414 v1212
  v1213.toNat
def k0_dev60 (v2 : BitVec 32) : Nat :=
  let c0_i32_1425 : BitVec 32 := 0#32
  let c1_i32_1424 : BitVec 32 := 1#32
  let v1216 : BitVec 32 := Scalar.muli v2 c1_i32_1424
  let v1217 : BitVec 32 := Scalar.addi c0_i32_1425 v1216
  v1217.toNat
def k0_dev61 (v1 : BitVec 32) : Nat :=
  let c0_i32_1456 : BitVec 32 := 0#32
  let c1_i32_1455 : BitVec 32 := 1#32
  let v1242 : BitVec 32 := Scalar.muli v1 c1_i32_1455
  let v1243 : BitVec 32 := Scalar.addi c0_i32_1456 v1242
  v1243.toNat
def k0_dev62 (v2 : BitVec 32) : Nat :=
  let c0_i32_1467 : BitVec 32 := 0#32
  let c1_i32_1466 : BitVec 32 := 1#32
  let v1246 : BitVec 32 := Scalar.muli v2 c1_i32_1466
  let v1247 : BitVec 32 := Scalar.addi c0_i32_1467 v1246
  v1247.toNat
def k0_off15 (v1273 : BitVec 32) : Fin 2 → Nat :=
  let c512_i32_1482 : BitVec 32 := 512#32
  let v1274 : BitVec 32 := Scalar.muli v1273 c512_i32_1482
  let v1275 : Index := Scalar.indexCast v1274
  let c0_1483 : Index := 0#32
  ![v1275.toNat, 0]

def k0_chk16 (v1273 : BitVec 32) : Prop :=
  (∀ a, (k0_off15 v1273) a + S256x256.size a ≤ S8192x256.size a)
theorem k0_off15_inb : ∀ (v1273 : BitVec 32) (k0_hw16 : k0_chk16 v1273), ∀ a, (k0_off15 v1273) a + S256x256.size a ≤ S8192x256.size a := fun v1273 k0_hw16 => k0_hw16

def k0_off16 (v1294 : BitVec 32) : Fin 2 → Nat :=
  let c512_i32_1494 : BitVec 32 := 512#32
  let v1295 : BitVec 32 := Scalar.muli v1294 c512_i32_1494
  let c256_i32_1495 : BitVec 32 := 256#32
  let v1296 : BitVec 32 := Scalar.addi v1295 c256_i32_1495
  let v1297 : Index := Scalar.indexCast v1296
  let c0_1496 : Index := 0#32
  ![v1297.toNat, 0]

def k0_chk17 (v1294 : BitVec 32) : Prop :=
  (∀ a, (k0_off16 v1294) a + S256x256.size a ≤ S8192x256.size a)
theorem k0_off16_inb : ∀ (v1294 : BitVec 32) (k0_hw17 : k0_chk17 v1294), ∀ a, (k0_off16 v1294) a + S256x256.size a ≤ S8192x256.size a := fun v1294 k0_hw17 => k0_hw17

def k0_dev63 (v2 : BitVec 32) : Nat :=
  let c0_i32_1523 : BitVec 32 := 0#32
  let c1_i32_1522 : BitVec 32 := 1#32
  let v1315 : BitVec 32 := Scalar.muli v2 c1_i32_1522
  let v1316 : BitVec 32 := Scalar.addi c0_i32_1523 v1315
  v1316.toNat
def k0_dev64 (v1 : BitVec 32) : Nat :=
  let c0_i32_1534 : BitVec 32 := 0#32
  let c1_i32_1533 : BitVec 32 := 1#32
  let v1319 : BitVec 32 := Scalar.muli v1 c1_i32_1533
  let v1320 : BitVec 32 := Scalar.addi c0_i32_1534 v1319
  v1320.toNat
def k0_dev65 (v2 : BitVec 32) : Nat :=
  let c0_i32_1565 : BitVec 32 := 0#32
  let c1_i32_1564 : BitVec 32 := 1#32
  let v1345 : BitVec 32 := Scalar.muli v2 c1_i32_1564
  let v1346 : BitVec 32 := Scalar.addi c0_i32_1565 v1345
  v1346.toNat
def k0_dev66 (v1 : BitVec 32) : Nat :=
  let c0_i32_1576 : BitVec 32 := 0#32
  let c1_i32_1575 : BitVec 32 := 1#32
  let v1349 : BitVec 32 := Scalar.muli v1 c1_i32_1575
  let v1350 : BitVec 32 := Scalar.addi c0_i32_1576 v1349
  v1350.toNat
def k0_dev67 (v1 : BitVec 32) : Nat :=
  let c0_i32_1607 : BitVec 32 := 0#32
  let c1_i32_1606 : BitVec 32 := 1#32
  let v1375 : BitVec 32 := Scalar.muli v1 c1_i32_1606
  let v1376 : BitVec 32 := Scalar.addi c0_i32_1607 v1375
  v1376.toNat
def k0_dev68 (v2 : BitVec 32) : Nat :=
  let c0_i32_1618 : BitVec 32 := 0#32
  let c1_i32_1617 : BitVec 32 := 1#32
  let v1379 : BitVec 32 := Scalar.muli v2 c1_i32_1617
  let v1380 : BitVec 32 := Scalar.addi c0_i32_1618 v1379
  v1380.toNat
def k0_dev69 (v1 : BitVec 32) : Nat :=
  let c0_i32_1649 : BitVec 32 := 0#32
  let c1_i32_1648 : BitVec 32 := 1#32
  let v1405 : BitVec 32 := Scalar.muli v1 c1_i32_1648
  let v1406 : BitVec 32 := Scalar.addi c0_i32_1649 v1405
  v1406.toNat
def k0_dev70 (v2 : BitVec 32) : Nat :=
  let c0_i32_1660 : BitVec 32 := 0#32
  let c1_i32_1659 : BitVec 32 := 1#32
  let v1409 : BitVec 32 := Scalar.muli v2 c1_i32_1659
  let v1410 : BitVec 32 := Scalar.addi c0_i32_1660 v1409
  v1410.toNat
def k0_off17 (v1436 : BitVec 32) : Fin 2 → Nat :=
  let c512_i32_1675 : BitVec 32 := 512#32
  let v1437 : BitVec 32 := Scalar.muli v1436 c512_i32_1675
  let v1438 : Index := Scalar.indexCast v1437
  let c0_1676 : Index := 0#32
  ![v1438.toNat, 0]

def k0_chk18 (v1436 : BitVec 32) : Prop :=
  (∀ a, (k0_off17 v1436) a + S256x256.size a ≤ S8192x256.size a)
theorem k0_off17_inb : ∀ (v1436 : BitVec 32) (k0_hw18 : k0_chk18 v1436), ∀ a, (k0_off17 v1436) a + S256x256.size a ≤ S8192x256.size a := fun v1436 k0_hw18 => k0_hw18

def k0_off18 (v1457 : BitVec 32) : Fin 2 → Nat :=
  let c512_i32_1687 : BitVec 32 := 512#32
  let v1458 : BitVec 32 := Scalar.muli v1457 c512_i32_1687
  let c256_i32_1688 : BitVec 32 := 256#32
  let v1459 : BitVec 32 := Scalar.addi v1458 c256_i32_1688
  let v1460 : Index := Scalar.indexCast v1459
  let c0_1689 : Index := 0#32
  ![v1460.toNat, 0]

def k0_chk19 (v1457 : BitVec 32) : Prop :=
  (∀ a, (k0_off18 v1457) a + S256x256.size a ≤ S8192x256.size a)
theorem k0_off18_inb : ∀ (v1457 : BitVec 32) (k0_hw19 : k0_chk19 v1457), ∀ a, (k0_off18 v1457) a + S256x256.size a ≤ S8192x256.size a := fun v1457 k0_hw19 => k0_hw19

def k0_dev71 (v2 : BitVec 32) : Nat :=
  let c0_i32_1716 : BitVec 32 := 0#32
  let c1_i32_1715 : BitVec 32 := 1#32
  let v1478 : BitVec 32 := Scalar.muli v2 c1_i32_1715
  let v1479 : BitVec 32 := Scalar.addi c0_i32_1716 v1478
  v1479.toNat
def k0_dev72 (v1 : BitVec 32) : Nat :=
  let c0_i32_1727 : BitVec 32 := 0#32
  let c1_i32_1726 : BitVec 32 := 1#32
  let v1482 : BitVec 32 := Scalar.muli v1 c1_i32_1726
  let v1483 : BitVec 32 := Scalar.addi c0_i32_1727 v1482
  v1483.toNat
def k0_dev73 (v2 : BitVec 32) : Nat :=
  let c0_i32_1758 : BitVec 32 := 0#32
  let c1_i32_1757 : BitVec 32 := 1#32
  let v1508 : BitVec 32 := Scalar.muli v2 c1_i32_1757
  let v1509 : BitVec 32 := Scalar.addi c0_i32_1758 v1508
  v1509.toNat
def k0_dev74 (v1 : BitVec 32) : Nat :=
  let c0_i32_1769 : BitVec 32 := 0#32
  let c1_i32_1768 : BitVec 32 := 1#32
  let v1512 : BitVec 32 := Scalar.muli v1 c1_i32_1768
  let v1513 : BitVec 32 := Scalar.addi c0_i32_1769 v1512
  v1513.toNat
def k0_dev75 (v1 : BitVec 32) : Nat :=
  let c0_i32_1800 : BitVec 32 := 0#32
  let c1_i32_1799 : BitVec 32 := 1#32
  let v1538 : BitVec 32 := Scalar.muli v1 c1_i32_1799
  let v1539 : BitVec 32 := Scalar.addi c0_i32_1800 v1538
  v1539.toNat
def k0_dev76 (v2 : BitVec 32) : Nat :=
  let c0_i32_1811 : BitVec 32 := 0#32
  let c1_i32_1810 : BitVec 32 := 1#32
  let v1542 : BitVec 32 := Scalar.muli v2 c1_i32_1810
  let v1543 : BitVec 32 := Scalar.addi c0_i32_1811 v1542
  v1543.toNat
def k0_dev77 (v1 : BitVec 32) : Nat :=
  let c0_i32_1842 : BitVec 32 := 0#32
  let c1_i32_1841 : BitVec 32 := 1#32
  let v1568 : BitVec 32 := Scalar.muli v1 c1_i32_1841
  let v1569 : BitVec 32 := Scalar.addi c0_i32_1842 v1568
  v1569.toNat
def k0_dev78 (v2 : BitVec 32) : Nat :=
  let c0_i32_1853 : BitVec 32 := 0#32
  let c1_i32_1852 : BitVec 32 := 1#32
  let v1572 : BitVec 32 := Scalar.muli v2 c1_i32_1852
  let v1573 : BitVec 32 := Scalar.addi c0_i32_1853 v1572
  v1573.toNat
def k0_off19 (v1599 : BitVec 32) : Fin 2 → Nat :=
  let c512_i32_1868 : BitVec 32 := 512#32
  let v1600 : BitVec 32 := Scalar.muli v1599 c512_i32_1868
  let v1601 : Index := Scalar.indexCast v1600
  let c0_1869 : Index := 0#32
  ![v1601.toNat, 0]

def k0_chk20 (v1599 : BitVec 32) : Prop :=
  (∀ a, (k0_off19 v1599) a + S256x256.size a ≤ S8192x256.size a)
theorem k0_off19_inb : ∀ (v1599 : BitVec 32) (k0_hw20 : k0_chk20 v1599), ∀ a, (k0_off19 v1599) a + S256x256.size a ≤ S8192x256.size a := fun v1599 k0_hw20 => k0_hw20

def k0_off20 (v1620 : BitVec 32) : Fin 2 → Nat :=
  let c512_i32_1880 : BitVec 32 := 512#32
  let v1621 : BitVec 32 := Scalar.muli v1620 c512_i32_1880
  let c256_i32_1881 : BitVec 32 := 256#32
  let v1622 : BitVec 32 := Scalar.addi v1621 c256_i32_1881
  let v1623 : Index := Scalar.indexCast v1622
  let c0_1882 : Index := 0#32
  ![v1623.toNat, 0]

def k0_chk21 (v1620 : BitVec 32) : Prop :=
  (∀ a, (k0_off20 v1620) a + S256x256.size a ≤ S8192x256.size a)
theorem k0_off20_inb : ∀ (v1620 : BitVec 32) (k0_hw21 : k0_chk21 v1620), ∀ a, (k0_off20 v1620) a + S256x256.size a ≤ S8192x256.size a := fun v1620 k0_hw21 => k0_hw21

def k0_dev79 (v2 : BitVec 32) : Nat :=
  let c0_i32_1909 : BitVec 32 := 0#32
  let c1_i32_1908 : BitVec 32 := 1#32
  let v1641 : BitVec 32 := Scalar.muli v2 c1_i32_1908
  let v1642 : BitVec 32 := Scalar.addi c0_i32_1909 v1641
  v1642.toNat
def k0_dev80 (v1 : BitVec 32) : Nat :=
  let c0_i32_1920 : BitVec 32 := 0#32
  let c1_i32_1919 : BitVec 32 := 1#32
  let v1645 : BitVec 32 := Scalar.muli v1 c1_i32_1919
  let v1646 : BitVec 32 := Scalar.addi c0_i32_1920 v1645
  v1646.toNat
def k0_dev81 (v2 : BitVec 32) : Nat :=
  let c0_i32_1951 : BitVec 32 := 0#32
  let c1_i32_1950 : BitVec 32 := 1#32
  let v1671 : BitVec 32 := Scalar.muli v2 c1_i32_1950
  let v1672 : BitVec 32 := Scalar.addi c0_i32_1951 v1671
  v1672.toNat
def k0_dev82 (v1 : BitVec 32) : Nat :=
  let c0_i32_1962 : BitVec 32 := 0#32
  let c1_i32_1961 : BitVec 32 := 1#32
  let v1675 : BitVec 32 := Scalar.muli v1 c1_i32_1961
  let v1676 : BitVec 32 := Scalar.addi c0_i32_1962 v1675
  v1676.toNat
def k0_dev83 (v1 : BitVec 32) : Nat :=
  let c0_i32_1993 : BitVec 32 := 0#32
  let c1_i32_1992 : BitVec 32 := 1#32
  let v1701 : BitVec 32 := Scalar.muli v1 c1_i32_1992
  let v1702 : BitVec 32 := Scalar.addi c0_i32_1993 v1701
  v1702.toNat
def k0_dev84 (v2 : BitVec 32) : Nat :=
  let c0_i32_2004 : BitVec 32 := 0#32
  let c1_i32_2003 : BitVec 32 := 1#32
  let v1705 : BitVec 32 := Scalar.muli v2 c1_i32_2003
  let v1706 : BitVec 32 := Scalar.addi c0_i32_2004 v1705
  v1706.toNat
def k0_dev85 (v1 : BitVec 32) : Nat :=
  let c0_i32_2035 : BitVec 32 := 0#32
  let c1_i32_2034 : BitVec 32 := 1#32
  let v1731 : BitVec 32 := Scalar.muli v1 c1_i32_2034
  let v1732 : BitVec 32 := Scalar.addi c0_i32_2035 v1731
  v1732.toNat
def k0_dev86 (v2 : BitVec 32) : Nat :=
  let c0_i32_2046 : BitVec 32 := 0#32
  let c1_i32_2045 : BitVec 32 := 1#32
  let v1735 : BitVec 32 := Scalar.muli v2 c1_i32_2045
  let v1736 : BitVec 32 := Scalar.addi c0_i32_2046 v1735
  v1736.toNat
def k0_off21 (v1762 : BitVec 32) : Fin 2 → Nat :=
  let c512_i32_2061 : BitVec 32 := 512#32
  let v1763 : BitVec 32 := Scalar.muli v1762 c512_i32_2061
  let v1764 : Index := Scalar.indexCast v1763
  let c0_2062 : Index := 0#32
  ![v1764.toNat, 0]

def k0_chk22 (v1762 : BitVec 32) : Prop :=
  (∀ a, (k0_off21 v1762) a + S256x256.size a ≤ S8192x256.size a)
theorem k0_off21_inb : ∀ (v1762 : BitVec 32) (k0_hw22 : k0_chk22 v1762), ∀ a, (k0_off21 v1762) a + S256x256.size a ≤ S8192x256.size a := fun v1762 k0_hw22 => k0_hw22

def k0_off22 (v1783 : BitVec 32) : Fin 2 → Nat :=
  let c512_i32_2073 : BitVec 32 := 512#32
  let v1784 : BitVec 32 := Scalar.muli v1783 c512_i32_2073
  let c256_i32_2074 : BitVec 32 := 256#32
  let v1785 : BitVec 32 := Scalar.addi v1784 c256_i32_2074
  let v1786 : Index := Scalar.indexCast v1785
  let c0_2075 : Index := 0#32
  ![v1786.toNat, 0]

def k0_chk23 (v1783 : BitVec 32) : Prop :=
  (∀ a, (k0_off22 v1783) a + S256x256.size a ≤ S8192x256.size a)
theorem k0_off22_inb : ∀ (v1783 : BitVec 32) (k0_hw23 : k0_chk23 v1783), ∀ a, (k0_off22 v1783) a + S256x256.size a ≤ S8192x256.size a := fun v1783 k0_hw23 => k0_hw23

def k0_dev87 (v2 : BitVec 32) : Nat :=
  let c0_i32_2102 : BitVec 32 := 0#32
  let c1_i32_2101 : BitVec 32 := 1#32
  let v1804 : BitVec 32 := Scalar.muli v2 c1_i32_2101
  let v1805 : BitVec 32 := Scalar.addi c0_i32_2102 v1804
  v1805.toNat
def k0_dev88 (v1 : BitVec 32) : Nat :=
  let c0_i32_2113 : BitVec 32 := 0#32
  let c1_i32_2112 : BitVec 32 := 1#32
  let v1808 : BitVec 32 := Scalar.muli v1 c1_i32_2112
  let v1809 : BitVec 32 := Scalar.addi c0_i32_2113 v1808
  v1809.toNat
def k0_dev89 (v2 : BitVec 32) : Nat :=
  let c0_i32_2144 : BitVec 32 := 0#32
  let c1_i32_2143 : BitVec 32 := 1#32
  let v1834 : BitVec 32 := Scalar.muli v2 c1_i32_2143
  let v1835 : BitVec 32 := Scalar.addi c0_i32_2144 v1834
  v1835.toNat
def k0_dev90 (v1 : BitVec 32) : Nat :=
  let c0_i32_2155 : BitVec 32 := 0#32
  let c1_i32_2154 : BitVec 32 := 1#32
  let v1838 : BitVec 32 := Scalar.muli v1 c1_i32_2154
  let v1839 : BitVec 32 := Scalar.addi c0_i32_2155 v1838
  v1839.toNat
def k0_dev91 (v1 : BitVec 32) : Nat :=
  let c0_i32_2186 : BitVec 32 := 0#32
  let c1_i32_2185 : BitVec 32 := 1#32
  let v1864 : BitVec 32 := Scalar.muli v1 c1_i32_2185
  let v1865 : BitVec 32 := Scalar.addi c0_i32_2186 v1864
  v1865.toNat
def k0_dev92 (v2 : BitVec 32) : Nat :=
  let c0_i32_2197 : BitVec 32 := 0#32
  let c1_i32_2196 : BitVec 32 := 1#32
  let v1868 : BitVec 32 := Scalar.muli v2 c1_i32_2196
  let v1869 : BitVec 32 := Scalar.addi c0_i32_2197 v1868
  v1869.toNat
def k0_dev93 (v1 : BitVec 32) : Nat :=
  let c0_i32_2228 : BitVec 32 := 0#32
  let c1_i32_2227 : BitVec 32 := 1#32
  let v1894 : BitVec 32 := Scalar.muli v1 c1_i32_2227
  let v1895 : BitVec 32 := Scalar.addi c0_i32_2228 v1894
  v1895.toNat
def k0_dev94 (v2 : BitVec 32) : Nat :=
  let c0_i32_2239 : BitVec 32 := 0#32
  let c1_i32_2238 : BitVec 32 := 1#32
  let v1898 : BitVec 32 := Scalar.muli v2 c1_i32_2238
  let v1899 : BitVec 32 := Scalar.addi c0_i32_2239 v1898
  v1899.toNat
def k0_off23 (v1925 : BitVec 32) : Fin 2 → Nat :=
  let c512_i32_2254 : BitVec 32 := 512#32
  let v1926 : BitVec 32 := Scalar.muli v1925 c512_i32_2254
  let v1927 : Index := Scalar.indexCast v1926
  let c0_2255 : Index := 0#32
  ![v1927.toNat, 0]

def k0_chk24 (v1925 : BitVec 32) : Prop :=
  (∀ a, (k0_off23 v1925) a + S256x256.size a ≤ S8192x256.size a)
theorem k0_off23_inb : ∀ (v1925 : BitVec 32) (k0_hw24 : k0_chk24 v1925), ∀ a, (k0_off23 v1925) a + S256x256.size a ≤ S8192x256.size a := fun v1925 k0_hw24 => k0_hw24

def k0_off24 (v1946 : BitVec 32) : Fin 2 → Nat :=
  let c512_i32_2266 : BitVec 32 := 512#32
  let v1947 : BitVec 32 := Scalar.muli v1946 c512_i32_2266
  let c256_i32_2267 : BitVec 32 := 256#32
  let v1948 : BitVec 32 := Scalar.addi v1947 c256_i32_2267
  let v1949 : Index := Scalar.indexCast v1948
  let c0_2268 : Index := 0#32
  ![v1949.toNat, 0]

def k0_chk25 (v1946 : BitVec 32) : Prop :=
  (∀ a, (k0_off24 v1946) a + S256x256.size a ≤ S8192x256.size a)
theorem k0_off24_inb : ∀ (v1946 : BitVec 32) (k0_hw25 : k0_chk25 v1946), ∀ a, (k0_off24 v1946) a + S256x256.size a ≤ S8192x256.size a := fun v1946 k0_hw25 => k0_hw25

def k0_dev95 (v2 : BitVec 32) : Nat :=
  let c0_i32_2295 : BitVec 32 := 0#32
  let c1_i32_2294 : BitVec 32 := 1#32
  let v1967 : BitVec 32 := Scalar.muli v2 c1_i32_2294
  let v1968 : BitVec 32 := Scalar.addi c0_i32_2295 v1967
  v1968.toNat
def k0_dev96 (v1 : BitVec 32) : Nat :=
  let c0_i32_2306 : BitVec 32 := 0#32
  let c1_i32_2305 : BitVec 32 := 1#32
  let v1971 : BitVec 32 := Scalar.muli v1 c1_i32_2305
  let v1972 : BitVec 32 := Scalar.addi c0_i32_2306 v1971
  v1972.toNat
def k0_dev97 (v2 : BitVec 32) : Nat :=
  let c0_i32_2337 : BitVec 32 := 0#32
  let c1_i32_2336 : BitVec 32 := 1#32
  let v1997 : BitVec 32 := Scalar.muli v2 c1_i32_2336
  let v1998 : BitVec 32 := Scalar.addi c0_i32_2337 v1997
  v1998.toNat
def k0_dev98 (v1 : BitVec 32) : Nat :=
  let c0_i32_2348 : BitVec 32 := 0#32
  let c1_i32_2347 : BitVec 32 := 1#32
  let v2001 : BitVec 32 := Scalar.muli v1 c1_i32_2347
  let v2002 : BitVec 32 := Scalar.addi c0_i32_2348 v2001
  v2002.toNat
def k0_dev99 (v1 : BitVec 32) : Nat :=
  let c0_i32_2379 : BitVec 32 := 0#32
  let c1_i32_2378 : BitVec 32 := 1#32
  let v2027 : BitVec 32 := Scalar.muli v1 c1_i32_2378
  let v2028 : BitVec 32 := Scalar.addi c0_i32_2379 v2027
  v2028.toNat
def k0_dev100 (v2 : BitVec 32) : Nat :=
  let c0_i32_2390 : BitVec 32 := 0#32
  let c1_i32_2389 : BitVec 32 := 1#32
  let v2031 : BitVec 32 := Scalar.muli v2 c1_i32_2389
  let v2032 : BitVec 32 := Scalar.addi c0_i32_2390 v2031
  v2032.toNat
def k0_dev101 (v1 : BitVec 32) : Nat :=
  let c0_i32_2421 : BitVec 32 := 0#32
  let c1_i32_2420 : BitVec 32 := 1#32
  let v2057 : BitVec 32 := Scalar.muli v1 c1_i32_2420
  let v2058 : BitVec 32 := Scalar.addi c0_i32_2421 v2057
  v2058.toNat
def k0_dev102 (v2 : BitVec 32) : Nat :=
  let c0_i32_2432 : BitVec 32 := 0#32
  let c1_i32_2431 : BitVec 32 := 1#32
  let v2061 : BitVec 32 := Scalar.muli v2 c1_i32_2431
  let v2062 : BitVec 32 := Scalar.addi c0_i32_2432 v2061
  v2062.toNat
def k0_off25 (v2088 : BitVec 32) : Fin 2 → Nat :=
  let c512_i32_2447 : BitVec 32 := 512#32
  let v2089 : BitVec 32 := Scalar.muli v2088 c512_i32_2447
  let v2090 : Index := Scalar.indexCast v2089
  let c0_2448 : Index := 0#32
  ![v2090.toNat, 0]

def k0_chk26 (v2088 : BitVec 32) : Prop :=
  (∀ a, (k0_off25 v2088) a + S256x256.size a ≤ S8192x256.size a)
theorem k0_off25_inb : ∀ (v2088 : BitVec 32) (k0_hw26 : k0_chk26 v2088), ∀ a, (k0_off25 v2088) a + S256x256.size a ≤ S8192x256.size a := fun v2088 k0_hw26 => k0_hw26

def k0_off26 (v2109 : BitVec 32) : Fin 2 → Nat :=
  let c512_i32_2459 : BitVec 32 := 512#32
  let v2110 : BitVec 32 := Scalar.muli v2109 c512_i32_2459
  let c256_i32_2460 : BitVec 32 := 256#32
  let v2111 : BitVec 32 := Scalar.addi v2110 c256_i32_2460
  let v2112 : Index := Scalar.indexCast v2111
  let c0_2461 : Index := 0#32
  ![v2112.toNat, 0]

def k0_chk27 (v2109 : BitVec 32) : Prop :=
  (∀ a, (k0_off26 v2109) a + S256x256.size a ≤ S8192x256.size a)
theorem k0_off26_inb : ∀ (v2109 : BitVec 32) (k0_hw27 : k0_chk27 v2109), ∀ a, (k0_off26 v2109) a + S256x256.size a ≤ S8192x256.size a := fun v2109 k0_hw27 => k0_hw27

def k0_dev103 (v2 : BitVec 32) : Nat :=
  let c0_i32_2488 : BitVec 32 := 0#32
  let c1_i32_2487 : BitVec 32 := 1#32
  let v2130 : BitVec 32 := Scalar.muli v2 c1_i32_2487
  let v2131 : BitVec 32 := Scalar.addi c0_i32_2488 v2130
  v2131.toNat
def k0_dev104 (v1 : BitVec 32) : Nat :=
  let c0_i32_2499 : BitVec 32 := 0#32
  let c1_i32_2498 : BitVec 32 := 1#32
  let v2134 : BitVec 32 := Scalar.muli v1 c1_i32_2498
  let v2135 : BitVec 32 := Scalar.addi c0_i32_2499 v2134
  v2135.toNat
def k0_dev105 (v2 : BitVec 32) : Nat :=
  let c0_i32_2530 : BitVec 32 := 0#32
  let c1_i32_2529 : BitVec 32 := 1#32
  let v2160 : BitVec 32 := Scalar.muli v2 c1_i32_2529
  let v2161 : BitVec 32 := Scalar.addi c0_i32_2530 v2160
  v2161.toNat
def k0_dev106 (v1 : BitVec 32) : Nat :=
  let c0_i32_2541 : BitVec 32 := 0#32
  let c1_i32_2540 : BitVec 32 := 1#32
  let v2164 : BitVec 32 := Scalar.muli v1 c1_i32_2540
  let v2165 : BitVec 32 := Scalar.addi c0_i32_2541 v2164
  v2165.toNat
def k0_dev107 (v1 : BitVec 32) : Nat :=
  let c0_i32_2572 : BitVec 32 := 0#32
  let c1_i32_2571 : BitVec 32 := 1#32
  let v2190 : BitVec 32 := Scalar.muli v1 c1_i32_2571
  let v2191 : BitVec 32 := Scalar.addi c0_i32_2572 v2190
  v2191.toNat
def k0_dev108 (v2 : BitVec 32) : Nat :=
  let c0_i32_2583 : BitVec 32 := 0#32
  let c1_i32_2582 : BitVec 32 := 1#32
  let v2194 : BitVec 32 := Scalar.muli v2 c1_i32_2582
  let v2195 : BitVec 32 := Scalar.addi c0_i32_2583 v2194
  v2195.toNat
def k0_dev109 (v1 : BitVec 32) : Nat :=
  let c0_i32_2614 : BitVec 32 := 0#32
  let c1_i32_2613 : BitVec 32 := 1#32
  let v2220 : BitVec 32 := Scalar.muli v1 c1_i32_2613
  let v2221 : BitVec 32 := Scalar.addi c0_i32_2614 v2220
  v2221.toNat
def k0_dev110 (v2 : BitVec 32) : Nat :=
  let c0_i32_2625 : BitVec 32 := 0#32
  let c1_i32_2624 : BitVec 32 := 1#32
  let v2224 : BitVec 32 := Scalar.muli v2 c1_i32_2624
  let v2225 : BitVec 32 := Scalar.addi c0_i32_2625 v2224
  v2225.toNat
def k0_off27 (v2251 : BitVec 32) : Fin 2 → Nat :=
  let c512_i32_2640 : BitVec 32 := 512#32
  let v2252 : BitVec 32 := Scalar.muli v2251 c512_i32_2640
  let v2253 : Index := Scalar.indexCast v2252
  let c0_2641 : Index := 0#32
  ![v2253.toNat, 0]

def k0_chk28 (v2251 : BitVec 32) : Prop :=
  (∀ a, (k0_off27 v2251) a + S256x256.size a ≤ S8192x256.size a)
theorem k0_off27_inb : ∀ (v2251 : BitVec 32) (k0_hw28 : k0_chk28 v2251), ∀ a, (k0_off27 v2251) a + S256x256.size a ≤ S8192x256.size a := fun v2251 k0_hw28 => k0_hw28

def k0_off28 (v2272 : BitVec 32) : Fin 2 → Nat :=
  let c512_i32_2652 : BitVec 32 := 512#32
  let v2273 : BitVec 32 := Scalar.muli v2272 c512_i32_2652
  let c256_i32_2653 : BitVec 32 := 256#32
  let v2274 : BitVec 32 := Scalar.addi v2273 c256_i32_2653
  let v2275 : Index := Scalar.indexCast v2274
  let c0_2654 : Index := 0#32
  ![v2275.toNat, 0]

def k0_chk29 (v2272 : BitVec 32) : Prop :=
  (∀ a, (k0_off28 v2272) a + S256x256.size a ≤ S8192x256.size a)
theorem k0_off28_inb : ∀ (v2272 : BitVec 32) (k0_hw29 : k0_chk29 v2272), ∀ a, (k0_off28 v2272) a + S256x256.size a ≤ S8192x256.size a := fun v2272 k0_hw29 => k0_hw29

def k0_dev111 (v2 : BitVec 32) : Nat :=
  let c0_i32_2681 : BitVec 32 := 0#32
  let c1_i32_2680 : BitVec 32 := 1#32
  let v2293 : BitVec 32 := Scalar.muli v2 c1_i32_2680
  let v2294 : BitVec 32 := Scalar.addi c0_i32_2681 v2293
  v2294.toNat
def k0_dev112 (v1 : BitVec 32) : Nat :=
  let c0_i32_2692 : BitVec 32 := 0#32
  let c1_i32_2691 : BitVec 32 := 1#32
  let v2297 : BitVec 32 := Scalar.muli v1 c1_i32_2691
  let v2298 : BitVec 32 := Scalar.addi c0_i32_2692 v2297
  v2298.toNat
def k0_dev113 (v2 : BitVec 32) : Nat :=
  let c0_i32_2723 : BitVec 32 := 0#32
  let c1_i32_2722 : BitVec 32 := 1#32
  let v2323 : BitVec 32 := Scalar.muli v2 c1_i32_2722
  let v2324 : BitVec 32 := Scalar.addi c0_i32_2723 v2323
  v2324.toNat
def k0_dev114 (v1 : BitVec 32) : Nat :=
  let c0_i32_2734 : BitVec 32 := 0#32
  let c1_i32_2733 : BitVec 32 := 1#32
  let v2327 : BitVec 32 := Scalar.muli v1 c1_i32_2733
  let v2328 : BitVec 32 := Scalar.addi c0_i32_2734 v2327
  v2328.toNat
def k0_dev115 (v1 : BitVec 32) : Nat :=
  let c0_i32_2765 : BitVec 32 := 0#32
  let c1_i32_2764 : BitVec 32 := 1#32
  let v2353 : BitVec 32 := Scalar.muli v1 c1_i32_2764
  let v2354 : BitVec 32 := Scalar.addi c0_i32_2765 v2353
  v2354.toNat
def k0_dev116 (v2 : BitVec 32) : Nat :=
  let c0_i32_2776 : BitVec 32 := 0#32
  let c1_i32_2775 : BitVec 32 := 1#32
  let v2357 : BitVec 32 := Scalar.muli v2 c1_i32_2775
  let v2358 : BitVec 32 := Scalar.addi c0_i32_2776 v2357
  v2358.toNat
def k0_dev117 (v1 : BitVec 32) : Nat :=
  let c0_i32_2807 : BitVec 32 := 0#32
  let c1_i32_2806 : BitVec 32 := 1#32
  let v2383 : BitVec 32 := Scalar.muli v1 c1_i32_2806
  let v2384 : BitVec 32 := Scalar.addi c0_i32_2807 v2383
  v2384.toNat

def k0_chk2_0 (v1 : BitVec 32) : Prop :=
  ((k0_dev2 v1) < nD) ∧
  ((k0_dev3 v1) < nD) ∧
  ((k0_dev5 v1) < nD) ∧
  ((k0_dev8 v1) < nD) ∧
  ((k0_dev10 v1) < nD) ∧
  ((k0_dev11 v1) < nD) ∧
  ((k0_dev13 v1) < nD) ∧
  ((k0_dev16 v1) < nD) ∧
  ((k0_dev18 v1) < nD) ∧
  ((k0_dev19 v1) < nD) ∧
  ((k0_dev21 v1) < nD) ∧
  ((k0_dev24 v1) < nD) ∧
  ((k0_dev26 v1) < nD) ∧
  ((k0_dev27 v1) < nD) ∧
  ((k0_dev29 v1) < nD) ∧
  ((k0_dev32 v1) < nD) ∧
  ((k0_dev34 v1) < nD) ∧
  ((k0_dev35 v1) < nD) ∧
  ((k0_dev37 v1) < nD) ∧
  ((k0_dev40 v1) < nD) ∧
  ((k0_dev42 v1) < nD) ∧
  ((k0_dev43 v1) < nD) ∧
  ((k0_dev45 v1) < nD) ∧
  ((k0_dev48 v1) < nD) ∧
  ((k0_dev50 v1) < nD) ∧
  ((k0_dev51 v1) < nD) ∧
  ((k0_dev53 v1) < nD) ∧
  ((k0_dev56 v1) < nD) ∧
  ((k0_dev58 v1) < nD) ∧
  ((k0_dev59 v1) < nD) ∧
  ((k0_dev61 v1) < nD) ∧
  ((k0_dev64 v1) < nD)
def k0_chk2_1 (v1 : BitVec 32) : Prop :=
  ((k0_dev66 v1) < nD) ∧
  ((k0_dev67 v1) < nD) ∧
  ((k0_dev69 v1) < nD) ∧
  ((k0_dev72 v1) < nD) ∧
  ((k0_dev74 v1) < nD) ∧
  ((k0_dev75 v1) < nD) ∧
  ((k0_dev77 v1) < nD) ∧
  ((k0_dev80 v1) < nD) ∧
  ((k0_dev82 v1) < nD) ∧
  ((k0_dev83 v1) < nD) ∧
  ((k0_dev85 v1) < nD) ∧
  ((k0_dev88 v1) < nD) ∧
  ((k0_dev90 v1) < nD) ∧
  ((k0_dev91 v1) < nD) ∧
  ((k0_dev93 v1) < nD) ∧
  ((k0_dev96 v1) < nD) ∧
  ((k0_dev98 v1) < nD) ∧
  ((k0_dev99 v1) < nD) ∧
  ((k0_dev101 v1) < nD) ∧
  ((k0_dev104 v1) < nD) ∧
  ((k0_dev106 v1) < nD) ∧
  ((k0_dev107 v1) < nD) ∧
  ((k0_dev109 v1) < nD) ∧
  ((k0_dev112 v1) < nD) ∧
  ((k0_dev114 v1) < nD) ∧
  ((k0_dev115 v1) < nD) ∧
  ((k0_dev117 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1
theorem k0_dev67_lt : ∀ (v1 : BitVec 32) (k0_hw2 : k0_chk2 v1), (k0_dev67 v1) < nD := fun v1 k0_hw2 => k0_hw2.2.2.1
theorem k0_dev69_lt : ∀ (v1 : BitVec 32) (k0_hw2 : k0_chk2 v1), (k0_dev69 v1) < nD := fun v1 k0_hw2 => k0_hw2.2.2.2.1
theorem k0_dev72_lt : ∀ (v1 : BitVec 32) (k0_hw2 : k0_chk2 v1), (k0_dev72 v1) < nD := fun v1 k0_hw2 => k0_hw2.2.2.2.2.1
theorem k0_dev74_lt : ∀ (v1 : BitVec 32) (k0_hw2 : k0_chk2 v1), (k0_dev74 v1) < nD := fun v1 k0_hw2 => k0_hw2.2.2.2.2.2.1
theorem k0_dev75_lt : ∀ (v1 : BitVec 32) (k0_hw2 : k0_chk2 v1), (k0_dev75 v1) < nD := fun v1 k0_hw2 => k0_hw2.2.2.2.2.2.2.1
theorem k0_dev77_lt : ∀ (v1 : BitVec 32) (k0_hw2 : k0_chk2 v1), (k0_dev77 v1) < nD := fun v1 k0_hw2 => k0_hw2.2.2.2.2.2.2.2.1
theorem k0_dev80_lt : ∀ (v1 : BitVec 32) (k0_hw2 : k0_chk2 v1), (k0_dev80 v1) < nD := fun v1 k0_hw2 => k0_hw2.2.2.2.2.2.2.2.2.1
theorem k0_dev82_lt : ∀ (v1 : BitVec 32) (k0_hw2 : k0_chk2 v1), (k0_dev82 v1) < nD := fun v1 k0_hw2 => k0_hw2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.1
theorem k0_dev85_lt : ∀ (v1 : BitVec 32) (k0_hw2 : k0_chk2 v1), (k0_dev85 v1) < nD := fun v1 k0_hw2 => k0_hw2.2.2.2.2.2.2.2.2.2.2.2.1
theorem k0_dev88_lt : ∀ (v1 : BitVec 32) (k0_hw2 : k0_chk2 v1), (k0_dev88 v1) < nD := fun v1 k0_hw2 => k0_hw2.2.2.2.2.2.2.2.2.2.2.2.2.1
theorem k0_dev90_lt : ∀ (v1 : BitVec 32) (k0_hw2 : k0_chk2 v1), (k0_dev90 v1) < nD := fun v1 k0_hw2 => k0_hw2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.1
theorem k0_dev93_lt : ∀ (v1 : BitVec 32) (k0_hw2 : k0_chk2 v1), (k0_dev93 v1) < nD := fun v1 k0_hw2 => k0_hw2.2.2.2.2.2.2.2.2.2.2.2.2.2.2.2.1
theorem k0_dev96_lt : ∀ (v1 : BitVec 32) (k0_hw2 : k0_chk2 v1), (k0_dev96 v1) < nD := fun v1 k0_hw2 => k0_hw2.2.2.2.2.2.2.2.2.2.2.2.2.2.2.2.2.1
theorem k0_dev98_lt : ∀ (v1 : BitVec 32) (k0_hw2 : k0_chk2 v1), (k0_dev98 v1) < nD := fun v1 k0_hw2 => k0_hw2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.1
theorem k0_dev101_lt : ∀ (v1 : BitVec 32) (k0_hw2 : k0_chk2 v1), (k0_dev101 v1) < nD := fun v1 k0_hw2 => k0_hw2.2.2.2.2.2.2.2.2.2.2.2.2.2.2.2.2.2.2.2.1
theorem k0_dev104_lt : ∀ (v1 : BitVec 32) (k0_hw2 : k0_chk2 v1), (k0_dev104 v1) < nD := fun v1 k0_hw2 => k0_hw2.2.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.2.2.2.2.2.2.2.2.2.2.2.2.2.2.2.2.2.2.2.2.2.2.2.2.2.2

def k0_dev118 (v2 : BitVec 32) : Nat :=
  let c0_i32_2818 : BitVec 32 := 0#32
  let c1_i32_2817 : BitVec 32 := 1#32
  let v2387 : BitVec 32 := Scalar.muli v2 c1_i32_2817
  let v2388 : BitVec 32 := Scalar.addi c0_i32_2818 v2387
  v2388.toNat

def k0_chk1_0 (v2 : BitVec 32) : Prop :=
  ((k0_dev1 v2) < nD) ∧
  ((k0_dev4 v2) < nD) ∧
  ((k0_dev6 v2) < nD) ∧
  ((k0_dev7 v2) < nD) ∧
  ((k0_dev9 v2) < nD) ∧
  ((k0_dev12 v2) < nD) ∧
  ((k0_dev14 v2) < nD) ∧
  ((k0_dev15 v2) < nD) ∧
  ((k0_dev17 v2) < nD) ∧
  ((k0_dev20 v2) < nD) ∧
  ((k0_dev22 v2) < nD) ∧
  ((k0_dev23 v2) < nD) ∧
  ((k0_dev25 v2) < nD) ∧
  ((k0_dev28 v2) < nD) ∧
  ((k0_dev30 v2) < nD) ∧
  ((k0_dev31 v2) < nD) ∧
  ((k0_dev33 v2) < nD) ∧
  ((k0_dev36 v2) < nD) ∧
  ((k0_dev38 v2) < nD) ∧
  ((k0_dev39 v2) < nD) ∧
  ((k0_dev41 v2) < nD) ∧
  ((k0_dev44 v2) < nD) ∧
  ((k0_dev46 v2) < nD) ∧
  ((k0_dev47 v2) < nD) ∧
  ((k0_dev49 v2) < nD) ∧
  ((k0_dev52 v2) < nD) ∧
  ((k0_dev54 v2) < nD) ∧
  ((k0_dev55 v2) < nD) ∧
  ((k0_dev57 v2) < nD) ∧
  ((k0_dev60 v2) < nD) ∧
  ((k0_dev62 v2) < nD) ∧
  ((k0_dev63 v2) < nD)
def k0_chk1_1 (v2 : BitVec 32) : Prop :=
  ((k0_dev65 v2) < nD) ∧
  ((k0_dev68 v2) < nD) ∧
  ((k0_dev70 v2) < nD) ∧
  ((k0_dev71 v2) < nD) ∧
  ((k0_dev73 v2) < nD) ∧
  ((k0_dev76 v2) < nD) ∧
  ((k0_dev78 v2) < nD) ∧
  ((k0_dev79 v2) < nD) ∧
  ((k0_dev81 v2) < nD) ∧
  ((k0_dev84 v2) < nD) ∧
  ((k0_dev86 v2) < nD) ∧
  ((k0_dev87 v2) < nD) ∧
  ((k0_dev89 v2) < nD) ∧
  ((k0_dev92 v2) < nD) ∧
  ((k0_dev94 v2) < nD) ∧
  ((k0_dev95 v2) < nD) ∧
  ((k0_dev97 v2) < nD) ∧
  ((k0_dev100 v2) < nD) ∧
  ((k0_dev102 v2) < nD) ∧
  ((k0_dev103 v2) < nD) ∧
  ((k0_dev105 v2) < nD) ∧
  ((k0_dev108 v2) < nD) ∧
  ((k0_dev110 v2) < nD) ∧
  ((k0_dev111 v2) < nD) ∧
  ((k0_dev113 v2) < nD) ∧
  ((k0_dev116 v2) < nD) ∧
  ((k0_dev118 v2) < nD)
def k0_chk1 (v2 : BitVec 32) : Prop :=
  k0_chk1_0 v2 ∧
  k0_chk1_1 v2
theorem k0_dev1_lt : ∀ (v2 : BitVec 32) (k0_hw1 : k0_chk1 v2), (k0_dev1 v2) < nD := fun v2 k0_hw1 => k0_hw1.1.1
theorem k0_dev4_lt : ∀ (v2 : BitVec 32) (k0_hw1 : k0_chk1 v2), (k0_dev4 v2) < nD := fun v2 k0_hw1 => k0_hw1.1.2.1
theorem k0_dev6_lt : ∀ (v2 : BitVec 32) (k0_hw1 : k0_chk1 v2), (k0_dev6 v2) < nD := fun v2 k0_hw1 => k0_hw1.1.2.2.1
theorem k0_dev7_lt : ∀ (v2 : BitVec 32) (k0_hw1 : k0_chk1 v2), (k0_dev7 v2) < nD := fun v2 k0_hw1 => k0_hw1.1.2.2.2.1
theorem k0_dev9_lt : ∀ (v2 : BitVec 32) (k0_hw1 : k0_chk1 v2), (k0_dev9 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev14_lt : ∀ (v2 : BitVec 32) (k0_hw1 : k0_chk1 v2), (k0_dev14 v2) < nD := fun v2 k0_hw1 => k0_hw1.1.2.2.2.2.2.2.1
theorem k0_dev15_lt : ∀ (v2 : BitVec 32) (k0_hw1 : k0_chk1 v2), (k0_dev15 v2) < nD := fun v2 k0_hw1 => k0_hw1.1.2.2.2.2.2.2.2.1
theorem k0_dev17_lt : ∀ (v2 : BitVec 32) (k0_hw1 : k0_chk1 v2), (k0_dev17 v2) < nD := fun v2 k0_hw1 => k0_hw1.1.2.2.2.2.2.2.2.2.1
theorem k0_dev20_lt : ∀ (v2 : BitVec 32) (k0_hw1 : k0_chk1 v2), (k0_dev20 v2) < nD := fun v2 k0_hw1 => k0_hw1.1.2.2.2.2.2.2.2.2.2.1
theorem k0_dev22_lt : ∀ (v2 : BitVec 32) (k0_hw1 : k0_chk1 v2), (k0_dev22 v2) < nD := fun v2 k0_hw1 => k0_hw1.1.2.2.2.2.2.2.2.2.2.2.1
theorem k0_dev23_lt : ∀ (v2 : BitVec 32) (k0_hw1 : k0_chk1 v2), (k0_dev23 v2) < nD := fun v2 k0_hw1 => k0_hw1.1.2.2.2.2.2.2.2.2.2.2.2.1
theorem k0_dev25_lt : ∀ (v2 : BitVec 32) (k0_hw1 : k0_chk1 v2), (k0_dev25 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev30_lt : ∀ (v2 : BitVec 32) (k0_hw1 : k0_chk1 v2), (k0_dev30 v2) < nD := fun v2 k0_hw1 => k0_hw1.1.2.2.2.2.2.2.2.2.2.2.2.2.2.2.1
theorem k0_dev31_lt : ∀ (v2 : BitVec 32) (k0_hw1 : k0_chk1 v2), (k0_dev31 v2) < nD := fun v2 k0_hw1 => k0_hw1.1.2.2.2.2.2.2.2.2.2.2.2.2.2.2.2.1
theorem k0_dev33_lt : ∀ (v2 : BitVec 32) (k0_hw1 : k0_chk1 v2), (k0_dev33 v2) < nD := fun v2 k0_hw1 => k0_hw1.1.2.2.2.2.2.2.2.2.2.2.2.2.2.2.2.2.1
theorem k0_dev36_lt : ∀ (v2 : BitVec 32) (k0_hw1 : k0_chk1 v2), (k0_dev36 v2) < nD := fun v2 k0_hw1 => k0_hw1.1.2.2.2.2.2.2.2.2.2.2.2.2.2.2.2.2.2.1
theorem k0_dev38_lt : ∀ (v2 : BitVec 32) (k0_hw1 : k0_chk1 v2), (k0_dev38 v2) < nD := fun v2 k0_hw1 => k0_hw1.1.2.2.2.2.2.2.2.2.2.2.2.2.2.2.2.2.2.2.1
theorem k0_dev39_lt : ∀ (v2 : BitVec 32) (k0_hw1 : k0_chk1 v2), (k0_dev39 v2) < nD := fun v2 k0_hw1 => k0_hw1.1.2.2.2.2.2.2.2.2.2.2.2.2.2.2.2.2.2.2.2.1
theorem k0_dev41_lt : ∀ (v2 : BitVec 32) (k0_hw1 : k0_chk1 v2), (k0_dev41 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev46_lt : ∀ (v2 : BitVec 32) (k0_hw1 : k0_chk1 v2), (k0_dev46 v2) < nD := fun v2 k0_hw1 => k0_hw1.1.2.2.2.2.2.2.2.2.2.2.2.2.2.2.2.2.2.2.2.2.2.2.1
theorem k0_dev47_lt : ∀ (v2 : BitVec 32) (k0_hw1 : k0_chk1 v2), (k0_dev47 v2) < nD := fun v2 k0_hw1 => k0_hw1.1.2.2.2.2.2.2.2.2.2.2.2.2.2.2.2.2.2.2.2.2.2.2.2.1
theorem k0_dev49_lt : ∀ (v2 : BitVec 32) (k0_hw1 : k0_chk1 v2), (k0_dev49 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev54_lt : ∀ (v2 : BitVec 32) (k0_hw1 : k0_chk1 v2), (k0_dev54 v2) < nD := fun v2 k0_hw1 => k0_hw1.1.2.2.2.2.2.2.2.2.2.2.2.2.2.2.2.2.2.2.2.2.2.2.2.2.2.2.1
theorem k0_dev55_lt : ∀ (v2 : BitVec 32) (k0_hw1 : k0_chk1 v2), (k0_dev55 v2) < nD := fun v2 k0_hw1 => k0_hw1.1.2.2.2.2.2.2.2.2.2.2.2.2.2.2.2.2.2.2.2.2.2.2.2.2.2.2.2.1
theorem k0_dev57_lt : ∀ (v2 : BitVec 32) (k0_hw1 : k0_chk1 v2), (k0_dev57 v2) < nD := fun v2 k0_hw1 => k0_hw1.1.2.2.2.2.2.2.2.2.2.2.2.2.2.2.2.2.2.2.2.2.2.2.2.2.2.2.2.2.1
theorem k0_dev60_lt : ∀ (v2 : BitVec 32) (k0_hw1 : k0_chk1 v2), (k0_dev60 v2) < nD := fun v2 k0_hw1 => k0_hw1.1.2.2.2.2.2.2.2.2.2.2.2.2.2.2.2.2.2.2.2.2.2.2.2.2.2.2.2.2.2.1
theorem k0_dev62_lt : ∀ (v2 : BitVec 32) (k0_hw1 : k0_chk1 v2), (k0_dev62 v2) < nD := fun v2 k0_hw1 => k0_hw1.1.2.2.2.2.2.2.2.2.2.2.2.2.2.2.2.2.2.2.2.2.2.2.2.2.2.2.2.2.2.2.1
theorem k0_dev63_lt : ∀ (v2 : BitVec 32) (k0_hw1 : k0_chk1 v2), (k0_dev63 v2) < nD := fun v2 k0_hw1 => k0_hw1.1.2.2.2.2.2.2.2.2.2.2.2.2.2.2.2.2.2.2.2.2.2.2.2.2.2.2.2.2.2.2.2
theorem k0_dev65_lt : ∀ (v2 : BitVec 32) (k0_hw1 : k0_chk1 v2), (k0_dev65 v2) < nD := fun v2 k0_hw1 => k0_hw1.2.1
theorem k0_dev68_lt : ∀ (v2 : BitVec 32) (k0_hw1 : k0_chk1 v2), (k0_dev68 v2) < nD := fun v2 k0_hw1 => k0_hw1.2.2.1
theorem k0_dev70_lt : ∀ (v2 : BitVec 32) (k0_hw1 : k0_chk1 v2), (k0_dev70 v2) < nD := fun v2 k0_hw1 => k0_hw1.2.2.2.1
theorem k0_dev71_lt : ∀ (v2 : BitVec 32) (k0_hw1 : k0_chk1 v2), (k0_dev71 v2) < nD := fun v2 k0_hw1 => k0_hw1.2.2.2.2.1
theorem k0_dev73_lt : ∀ (v2 : BitVec 32) (k0_hw1 : k0_chk1 v2), (k0_dev73 v2) < nD := fun v2 k0_hw1 => k0_hw1.2.2.2.2.2.1
theorem k0_dev76_lt : ∀ (v2 : BitVec 32) (k0_hw1 : k0_chk1 v2), (k0_dev76 v2) < nD := fun v2 k0_hw1 => k0_hw1.2.2.2.2.2.2.1
theorem k0_dev78_lt : ∀ (v2 : BitVec 32) (k0_hw1 : k0_chk1 v2), (k0_dev78 v2) < nD := fun v2 k0_hw1 => k0_hw1.2.2.2.2.2.2.2.1
theorem k0_dev79_lt : ∀ (v2 : BitVec 32) (k0_hw1 : k0_chk1 v2), (k0_dev79 v2) < nD := fun v2 k0_hw1 => k0_hw1.2.2.2.2.2.2.2.2.1
theorem k0_dev81_lt : ∀ (v2 : BitVec 32) (k0_hw1 : k0_chk1 v2), (k0_dev81 v2) < nD := fun v2 k0_hw1 => k0_hw1.2.2.2.2.2.2.2.2.2.1
theorem k0_dev84_lt : ∀ (v2 : BitVec 32) (k0_hw1 : k0_chk1 v2), (k0_dev84 v2) < nD := fun v2 k0_hw1 => k0_hw1.2.2.2.2.2.2.2.2.2.2.1
theorem k0_dev86_lt : ∀ (v2 : BitVec 32) (k0_hw1 : k0_chk1 v2), (k0_dev86 v2) < nD := fun v2 k0_hw1 => k0_hw1.2.2.2.2.2.2.2.2.2.2.2.1
theorem k0_dev87_lt : ∀ (v2 : BitVec 32) (k0_hw1 : k0_chk1 v2), (k0_dev87 v2) < nD := fun v2 k0_hw1 => k0_hw1.2.2.2.2.2.2.2.2.2.2.2.2.1
theorem k0_dev89_lt : ∀ (v2 : BitVec 32) (k0_hw1 : k0_chk1 v2), (k0_dev89 v2) < nD := fun v2 k0_hw1 => k0_hw1.2.2.2.2.2.2.2.2.2.2.2.2.2.1
theorem k0_dev92_lt : ∀ (v2 : BitVec 32) (k0_hw1 : k0_chk1 v2), (k0_dev92 v2) < nD := fun v2 k0_hw1 => k0_hw1.2.2.2.2.2.2.2.2.2.2.2.2.2.2.1
theorem k0_dev94_lt : ∀ (v2 : BitVec 32) (k0_hw1 : k0_chk1 v2), (k0_dev94 v2) < nD := fun v2 k0_hw1 => k0_hw1.2.2.2.2.2.2.2.2.2.2.2.2.2.2.2.1
theorem k0_dev95_lt : ∀ (v2 : BitVec 32) (k0_hw1 : k0_chk1 v2), (k0_dev95 v2) < nD := fun v2 k0_hw1 => k0_hw1.2.2.2.2.2.2.2.2.2.2.2.2.2.2.2.2.1
theorem k0_dev97_lt : ∀ (v2 : BitVec 32) (k0_hw1 : k0_chk1 v2), (k0_dev97 v2) < nD := fun v2 k0_hw1 => k0_hw1.2.2.2.2.2.2.2.2.2.2.2.2.2.2.2.2.2.1
theorem k0_dev100_lt : ∀ (v2 : BitVec 32) (k0_hw1 : k0_chk1 v2), (k0_dev100 v2) < nD := fun v2 k0_hw1 => k0_hw1.2.2.2.2.2.2.2.2.2.2.2.2.2.2.2.2.2.2.1
theorem k0_dev102_lt : ∀ (v2 : BitVec 32) (k0_hw1 : k0_chk1 v2), (k0_dev102 v2) < nD := fun v2 k0_hw1 => k0_hw1.2.2.2.2.2.2.2.2.2.2.2.2.2.2.2.2.2.2.2.1
theorem k0_dev103_lt : ∀ (v2 : BitVec 32) (k0_hw1 : k0_chk1 v2), (k0_dev103 v2) < nD := fun v2 k0_hw1 => k0_hw1.2.2.2.2.2.2.2.2.2.2.2.2.2.2.2.2.2.2.2.2.1
theorem k0_dev105_lt : ∀ (v2 : BitVec 32) (k0_hw1 : k0_chk1 v2), (k0_dev105 v2) < nD := fun v2 k0_hw1 => k0_hw1.2.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.2.2.2.2.2.2.2.2.2.2.2.2.2.2.2.2.2.2.2.2.2.1
theorem k0_dev110_lt : ∀ (v2 : BitVec 32) (k0_hw1 : k0_chk1 v2), (k0_dev110 v2) < nD := fun v2 k0_hw1 => k0_hw1.2.2.2.2.2.2.2.2.2.2.2.2.2.2.2.2.2.2.2.2.2.2.2.1
theorem k0_dev111_lt : ∀ (v2 : BitVec 32) (k0_hw1 : k0_chk1 v2), (k0_dev111 v2) < nD := fun v2 k0_hw1 => k0_hw1.2.2.2.2.2.2.2.2.2.2.2.2.2.2.2.2.2.2.2.2.2.2.2.2.1
theorem k0_dev113_lt : ∀ (v2 : BitVec 32) (k0_hw1 : k0_chk1 v2), (k0_dev113 v2) < nD := fun v2 k0_hw1 => k0_hw1.2.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.2.2.2.2.2.2.2.2.2.2.2.2.2.2.2.2.2.2.2.2.2.2.2.2.2.1
theorem k0_dev118_lt : ∀ (v2 : BitVec 32) (k0_hw1 : k0_chk1 v2), (k0_dev118 v2) < nD := fun v2 k0_hw1 => k0_hw1.2.2.2.2.2.2.2.2.2.2.2.2.2.2.2.2.2.2.2.2.2.2.2.2.2.2.2

def k0_off29 (v2414 : BitVec 32) : Fin 2 → Nat :=
  let c512_i32_2833 : BitVec 32 := 512#32
  let v2415 : BitVec 32 := Scalar.muli v2414 c512_i32_2833
  let v2416 : Index := Scalar.indexCast v2415
  let c0_2834 : Index := 0#32
  ![v2416.toNat, 0]

def k0_chk30 (v2414 : BitVec 32) : Prop :=
  (∀ a, (k0_off29 v2414) a + S256x256.size a ≤ S8192x256.size a)
theorem k0_off29_inb : ∀ (v2414 : BitVec 32) (k0_hw30 : k0_chk30 v2414), ∀ a, (k0_off29 v2414) a + S256x256.size a ≤ S8192x256.size a := fun v2414 k0_hw30 => k0_hw30

def k0_off30 (v2435 : BitVec 32) : Fin 2 → Nat :=
  let c512_i32_2845 : BitVec 32 := 512#32
  let v2436 : BitVec 32 := Scalar.muli v2435 c512_i32_2845
  let c256_i32_2846 : BitVec 32 := 256#32
  let v2437 : BitVec 32 := Scalar.addi v2436 c256_i32_2846
  let v2438 : Index := Scalar.indexCast v2437
  let c0_2847 : Index := 0#32
  ![v2438.toNat, 0]

def k0_chk31 (v2435 : BitVec 32) : Prop :=
  (∀ a, (k0_off30 v2435) a + S256x256.size a ≤ S8192x256.size a)
theorem k0_off30_inb : ∀ (v2435 : BitVec 32) (k0_hw31 : k0_chk31 v2435), ∀ a, (k0_off30 v2435) a + S256x256.size a ≤ S8192x256.size a := fun v2435 k0_hw31 => k0_hw31

def k0_off31 (v2440 : BitVec 32) (c0_i32_2882 : BitVec 32) : Fin 2 → Nat :=
  let c512_i32_2848 : BitVec 32 := 512#32
  let v2441 : BitVec 32 := Scalar.muli v2440 c512_i32_2848
  let v2473 : BitVec 32 := Scalar.addi v2441 c0_i32_2882
  let v2474 : Index := Scalar.indexCast v2473
  let c0_2883 : Index := 0#32
  ![v2474.toNat, 0]

def k0_chk32 (v2440 : BitVec 32) : Prop :=
  (∀ (r : Fin 2), ∀ a, (k0_off31 v2440 (BitVec.ofNat 32 (128 * r.val))) a + S128x256.size a ≤ S8192x256.size a)
theorem k0_off31_inb : ∀ (v2440 : BitVec 32) (k0_hw32 : k0_chk32 v2440), ∀ (r : Fin 2), ∀ a, (k0_off31 v2440 (BitVec.ofNat 32 (128 * r.val))) a + S128x256.size a ≤ S8192x256.size a := fun v2440 k0_hw32 r => k0_hw32 r

def k0_off32 (v2510 : BitVec 32) (c0_i32_2954 : BitVec 32) : Fin 2 → Nat :=
  let c512_i32_2919 : BitVec 32 := 512#32
  let v2511 : BitVec 32 := Scalar.muli v2510 c512_i32_2919
  let c256_i32_2920 : BitVec 32 := 256#32
  let v2512 : BitVec 32 := Scalar.addi v2511 c256_i32_2920
  let v2544 : BitVec 32 := Scalar.addi v2512 c0_i32_2954
  let v2545 : Index := Scalar.indexCast v2544
  let c0_2955 : Index := 0#32
  ![v2545.toNat, 0]

def k0_chk33 (v2510 : BitVec 32) : Prop :=
  (∀ (r : Fin 2), ∀ a, (k0_off32 v2510 (BitVec.ofNat 32 (128 * r.val))) a + S128x256.size a ≤ S8192x256.size a)
theorem k0_off32_inb : ∀ (v2510 : BitVec 32) (k0_hw33 : k0_chk33 v2510), ∀ (r : Fin 2), ∀ a, (k0_off32 v2510 (BitVec.ofNat 32 (128 * r.val))) a + S128x256.size a ≤ S8192x256.size a := fun v2510 k0_hw33 r => k0_hw33 r

abbrev stage0_0 : Fin 1 → Memref sig .tc .smem S33 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
  The body of the kernel as one parametric program: sixteen steps of a ring, each told by its number, its direction and its half of a slot.
-/
module

public import proofs.«01_k».proof.Proof.Gen.KernelIdeal.Skeleton

@[expose] public section

noncomputable section

namespace Cert.KernelIdeal.K

open Idealize.ShloMosaic Idealize.SL.Sem
open Cert.KernelIdeal Cert.KernelIdeal.Gen

variable {F : FTy → Type} [FloatOps F]

/-- A TensorCore program of this kernel. -/
abbrev KProg (F : FTy → Type) [FloatOps F] := Prog (TpuEff nD τ sig (Elt F) Λ₀ .tc)

/-- The slot a block sits in when it is sent at step `h`. -/
def sl (h : ℕ) : Fin 2 := ⟨h % 2, Nat.mod_lt _ (by decide)⟩

/-- The value of the pair picked by the direction: `0` the clockwise ring, `1` the other. -/
def pick {α : Type} (d : Fin 2) (a b : α) : α := match d with | 0 => a | 1 => b

/-- The ring buffer of a direction. -/
def ringM (d : Fin 2) : Memref sig .tc .vmem S2x256x8192 .bf16 :=
  match d with | 0 => Memref.whole cc0_scratch0 | 1 => Memref.whole cc0_scratch1
theorem ringM_whole (d : Fin 2) : (ringM d).IsWhole := match d with | 0 => Memref.isWhole_whole _ | 1 => Memref.isWhole_whole _
abbrev tblM : Memref sig .tc .smem S33 .i32 := Memref.whole cc0_stg0_0
abbrev xM : Memref sig .tc .hbm S512x8192 .f32 := Memref.whole main_arg0
abbrev wM : Memref sig .tc .hbm S8192x256 .f32 := Memref.whole main_arg1
abbrev outM : Memref sig .tc .vmem S8192x256 .f32 := Memref.whole cc0_stg1_0
abbrev wbM : Memref sig .tc .vmem S8192x256 .bf16 := Memref.whole cc0_scratch2
abbrev xtM : Memref sig .tc .vmem S4x128x8192 .f32 := Memref.whole cc0_scratch3
abbrev wtM : Memref sig .tc .vmem S8192x256 .f32 := Memref.whole cc0_scratch4
theorem wbM_whole : (wbM).IsWhole := Memref.isWhole_whole _

def sendA (d : Fin 2) : DmaSems sig S2x2 := match d with | 0 => cc0_scratch5 | 1 => cc0_scratch7
def recvA (d : Fin 2) : DmaSems sig S2x2 := match d with | 0 => cc0_scratch6 | 1 => cc0_scratch8
def freeA (d : Fin 2) : Sems sig S2 := match d with | 0 => cc0_scratch11 | 1 => cc0_scratch12

theorem inb22 (s j : Fin 2) : ∀ a, (![s.val, j.val] : Fin 2 → Nat) a + S1x1.size a ≤ S2x2.size a := by revert s j; decide
theorem inb2 (j : Fin 2) : ∀ a, (![j.val] : Fin 1 → Nat) a + S1.size a ≤ S2.size a := by revert j; decide
theorem inb4 (t : Fin 4) : ∀ a, (![t.val] : Fin 1 → Nat) a + S1.size a ≤ S4.size a := by revert t; decide
theorem inb33 (i : Fin 33) : ∀ a, (![i.val] : Fin 1 → Nat) a + S1.size a ≤ S33.size a := by revert i; decide
theorem inbHalf (s j : Fin 2) : ∀ a, (![s.val, 128 * j.val, 0] : Fin 3 → Nat) a + S1x128x8192.size a ≤ S2x256x8192.size a := by
  revert s j; decide
theorem inbSlot (s : Fin 2) : ∀ a, (![s.val, 0, 0] : Fin 3 → Nat) a + S1x256x8192.size a ≤ S2x256x8192.size a := by revert s; decide
theorem inbXt (t : Fin 4) : ∀ a, (![t.val, 0, 0] : Fin 3 → Nat) a + S1x128x8192.size a ≤ S4x128x8192.size a := by revert t; decide
theorem inbX (d j : Fin 2) : ∀ a, (![256 * d.val + 128 * j.val, 0] : Fin 2 → Nat) a + S128x8192.size a ≤ S512x8192.size a := by
  revert d j; decide

abbrev halfR (s j : Fin 2) : Rect S2x256x8192 := Rect.unit (s := S2x256x8192) ![s.val, 128 * j.val, 0] S1x128x8192.size (inbHalf s j)
abbrev slotR (s : Fin 2) : Rect S2x256x8192 := Rect.unit (s := S2x256x8192) ![s.val, 0, 0] S1x256x8192.size (inbSlot s)
abbrev xtR (t : Fin 4) : Rect S4x128x8192 := Rect.unit (s := S4x128x8192) ![t.val, 0, 0] S1x128x8192.size (inbXt t)
abbrev allR : Rect S8192x256 := Rect.unit (s := S8192x256) ![0, 0] S8192x256.size inb_S8192x256_S8192x256_0_0

theorem wordsHalf (s j : Fin 2) : (halfR s j).WholeWords (EltTy.packing .bf16) :=
  match s, j with
  | 0, 0 => wordsbf16_S2x256x8192_S1x128x8192_0_0_0
  | 0, 1 => wordsbf16_S2x256x8192_S1x128x8192_0_128_0
  | 1, 0 => wordsbf16_S2x256x8192_S1x128x8192_1_0_0
  | 1, 1 => wordsbf16_S2x256x8192_S1x128x8192_1_128_0
theorem packedHalf (j : Fin 2) : (halfR 0 j).PackedRows (EltTy.packing .bf16) :=
  match j with
  | 0 => packedbf16_S2x256x8192_S1x128x8192_0_0_0
  | 1 => packedbf16_S2x256x8192_S1x128x8192_0_128_0

/-- Half `j` of slot `s` of the ring buffer of direction `d`, as the transfers address it. -/
abbrev halfM (d s j : Fin 2) : Memref sig .tc .vmem S128x8192 .bf16 :=
  ((ringM d).slice (halfR s j) (fun _ => rfl)).squeeze S128x8192 squeezes_S1x128x8192_S128x8192
abbrev xtPart (t : Fin 4) : Memref sig .tc .vmem S128x8192 .f32 :=
  ((xtM).slice (xtR t) (fun _ => rfl)).squeeze S128x8192 squeezes_S1x128x8192_S128x8192
abbrev xPart (d j : Fin 2) : Memref sig .tc .hbm S128x8192 .f32 :=
  (xM).slice (Rect.unit (s := S512x8192) ![256 * d.val + 128 * j.val, 0] S128x8192.size (inbX d j)) (fun _ => rfl)

abbrev sendS (d s j : Fin 2) : DmaSem sig := (((sendA d).slice (Rect.unit (s := S2x2) ![s.val, j.val] S1x1.size (inb22 s j))).squeeze S_ squeezes_S1x1_S_).sem
abbrev recvS (d s j : Fin 2) : DmaSem sig := (((recvA d).slice (Rect.unit (s := S2x2) ![s.val, j.val] S1x1.size (inb22 s j))).squeeze S_ squeezes_S1x1_S_).sem
abbrev freeS (d j : Fin 2) : Sem sig := (((freeA d).slice (Rect.unit (s := S2) ![j.val] S1.size (inb2 j))).squeeze S_ squeezes_S1_S_).sem
abbrev xS (t : Fin 4) : DmaSem sig := (((cc0_scratch9).slice (Rect.unit (s := S4) ![t.val] S1.size (inb4 t))).squeeze S_ squeezes_S1_S_).sem
abbrev wS : DmaSem sig := (cc0_scratch10).sem
abbrev barS : Sem sig := sig.barrier 0 rfl

theorem halfWE (d s j : Fin 2) : (halfM d s j).view.WordExact := (((ringM_whole d).wordExact_slice rfl _ (wordsHalf s j)).reshape _ _)

/-- The staging buffer of the own rows of direction `d`, half `j`. -/
abbrev tix (d j : Fin 2) : Fin 4 := ⟨2 * j.val + d.val, by omega⟩

/-- The word at position `i` of the table. -/
def word (i : Fin 33) : KProg F (Elt F .i32) := smemLoad tblM (Rect.unit (s := S33) ![i.val] S1.size (inb33 i)) numel1_S1 rfl

/-- The two neighbours a device is told of. -/
def rightOf (v : BitVec 32) (h : k0_chk2 v) : Dev nD := ⟨k0_dev2 v, k0_dev2_lt v h⟩
def leftOf (v : BitVec 32) (h : k0_chk1 v) : Dev nD := ⟨k0_dev1 v, k0_dev1_lt v h⟩

/-- The row a block of origin `v` starts at in the result. -/
def rowOff (d : Fin 2) (v : BitVec 32) : Fin 2 → Nat :=
  match d with
  | 0 => ![(Scalar.indexCast (Scalar.muli v 512#32)).toNat, 0]
  | 1 => ![(Scalar.indexCast (Scalar.addi (Scalar.muli v 512#32) 256#32)).toNat, 0]
def chkRow (d : Fin 2) (v : BitVec 32) : Prop := (∀ a, (rowOff d v) a + S256x256.size a ≤ S8192x256.size a)
instance chkRow.dec (d : Fin 2) (v : BitVec 32) : Decidable (chkRow d v) := decidable_of_iff' _ (Iff.of_eq (chkRow.eq_1 d v))

/-- As `rowOff`, half `j` of the block. -/
def rowOffHalf (d : Fin 2) (v : BitVec 32) (j : BitVec 32) : Fin 2 → Nat :=
  match d with
  | 0 => ![(Scalar.indexCast (Scalar.addi (Scalar.muli v 512#32) j)).toNat, 0]
  | 1 => ![(Scalar.indexCast (Scalar.addi (Scalar.addi (Scalar.muli v 512#32) 256#32) j)).toNat, 0]
def chkHalf (d : Fin 2) (v : BitVec 32) : Prop :=
  (∀ (r : Fin 2), ∀ a, (rowOffHalf d v (BitVec.ofNat 32 (128 * r.val))) a + S128x256.size a ≤ S8192x256.size a)
instance chkHalf.dec (d : Fin 2) (v : BitVec 32) : Decidable (chkHalf d v) := decidable_of_iff' _ (Iff.of_eq (chkHalf.eq_1 d v))

/-- The gelu of a block, as the kernel computes it. -/
def gelu {s : Shape} (y : FVec F s .f32) : FVec F s .f32 :=
  mulf (mulf (broadcast s (Scalar.ofBits .f32 0x3F000000#32)) y)
    (addf (broadcast s (Scalar.ofBits .f32 0x3F800000#32))
      (tanh (mulf (broadcast s (Scalar.ofBits .f32 0x3F4C422A#32))
        (addf y (mulf (mulf (mulf (broadcast s (Scalar.ofBits .f32 0x3D372713#32)) y) y) y)))))
/-- A slot's 256 rows of the result. -/
def payDot (v : Vec F S1x256x8192 .bf16) (w : Vec F S8192x256 .bf16) : FVec F S256x256 .f32 :=
  gelu (matmul dot_S256x8192_S8192x256_S256x256_1_0_0_1_n_n none (shapeCast S256x8192 v shapeCasts_S1x256x8192_S256x8192 : FVec F S256x8192 .bf16) w
    (constant S256x256 .f32 0x00000000#32 : FVec F S256x256 .f32))
/-- Half a slot's 128 rows of the result. -/
def payHalf (v : Vec F S1x128x8192 .bf16) (w : Vec F S8192x256 .bf16) : FVec F S128x256 .f32 :=
  gelu (matmul dot_S128x8192_S8192x256_S128x256_1_0_0_1_n_n none (shapeCast S128x8192 v shapeCasts_S1x128x8192_S128x8192 : FVec F S128x8192 .bf16) w
    (constant S128x256 .f32 0x00000000#32 : FVec F S128x256 .f32))

/-- Starting the copy of own rows. -/
def copyX (d j : Fin 2) : KProg F PUnit :=
  Prog.lift (.enqueueDma (xPart d j) (.here (xtPart (tix d j))) (.dma (xS (tix d j))) (View.wordExact_bits rfl) ((View.wordExact_bits rfl).reshape _ _) ⟨Or.inl rfl, trivial⟩)
/-- Starting the copy of the columns. -/
def copyW : KProg F PUnit :=
  Prog.lift (.enqueueDma wM (.here wtM) (.dma wS) (Memref.isWhole_whole main_arg1).wordExact (Memref.isWhole_whole cc0_scratch4).wordExact ⟨Or.inl rfl, trivial⟩)

/-- Sending half `j` of the slot of step `h` to the neighbour `dev`. -/
def send (h : ℕ) (d j : Fin 2) (dev : Dev nD) : KProg F PUnit :=
  Prog.lift (.enqueueDma (halfM d (sl h) j) (.remote (Dev.tc dev) (halfM d (sl (h + 1)) j) (.dma (sendS d (sl h) j))) (.dma (recvS d (sl (h + 1)) j))
    (halfWE d (sl h) j) (halfWE d (sl (h + 1)) j) ⟨⟨rfl, Or.inl (by cases d using Fin.cases <;> rfl)⟩, trivial⟩)
def waitSend (h : ℕ) (d j : Fin 2) : KProg F PUnit :=
  Prog.lift (.waitDma2 (sendS d (sl h) j) (halfM d (sl (h + 1)) j) (halfM d (sl h) j) (halfWE d (sl (h + 1)) j) (halfWE d (sl h) j))
def waitRecv (h : ℕ) (d j : Fin 2) : KProg F PUnit :=
  Prog.lift (.waitDma2 (recvS d (sl (h + 1)) j) (halfM d (sl h) j) (halfM d (sl (h + 1)) j) (halfWE d (sl h) j) (halfWE d (sl (h + 1)) j))

/-- Own rows: their copy's arrival, the cast into slot 0 and the first send. -/
def fill (d j : Fin 2) (dev : Dev nD) : KProg F PUnit := do
  Prog.lift (.waitDma2 (xS (tix d j)) (xPart d j) (xtPart (tix d j)) (View.wordExact_bits rfl) ((View.wordExact_bits rfl).reshape _ _))
  let v : Vec F S1x128x8192 .f32 ← Prog.lift (.load xtM (xtR (tix d j)).toLoadRect (View.loadsAt_vmem h_S1x128x8192))
  let _v : Vec F S1x128x8192 .bf16 ← Prog.lift (.load (ringM d) (halfR 0 j).toLoadRect (View.loadsAt_vmem h_S1x128x8192))
  Prog.lift (.store (ringM d) (halfR 0 j) (k0_pay2 v) Finset.univ (View.stores_vmem h_S1x128x8192 ((ringM_whole d).storeExact_slice rfl _ (packedHalf j)) (fun _ => rfl)) (.inl rfl))
  send 0 d j dev

/-- The columns: their copy's arrival and the cast. -/
def fillW : KProg F PUnit := do
  Prog.lift (.waitDma2 wS wM wtM (Memref.isWhole_whole main_arg1).wordExact (Memref.isWhole_whole cc0_scratch4).wordExact)
  let v : Vec F S8192x256 .f32 ← Prog.lift (.load wtM allR.toLoadRect (View.loadsAt_vmem h_S8192x256))
  let _v : Vec F S8192x256 .bf16 ← Prog.lift (.load wbM allR.toLoadRect (View.loadsAt_vmem h_S8192x256))
  Prog.lift (.store wbM allR (k0_pay7 v) Finset.univ (View.stores_vmem h_S8192x256 ((Memref.isWhole_whole cc0_scratch2).storeExact_slice rfl _ packedbf16_S8192x256_S8192x256_0_0) (fun _ => rfl)) (.inl rfl))

/-- Storing the rows `r` of the result. -/
def putRows (d : Fin 2) (v : BitVec 32) (h : chkRow d v) (r : FVec F S256x256 .f32) : KProg F PUnit := do
  let _v : Vec F S256x256 .f32 ← Prog.lift (.load outM (Rect.unit (s := S8192x256) (rowOff d v) S256x256.size h).toLoadRect (View.loadsAt_vmem h_S256x256))
  Prog.lift (.store outM (Rect.unit (s := S8192x256) (rowOff d v) S256x256.size h) r Finset.univ (View.stores_vmem_bits_univ h_S256x256 rfl) (.inl rfl))
def putHalf (d : Fin 2) (v : BitVec 32) (h : chkHalf d v) (j : Fin 2) (r : FVec F S128x256 .f32) : KProg F PUnit := do
  let _v : Vec F S128x256 .f32 ← Prog.lift (.load outM (Rect.unit (s := S8192x256) (rowOffHalf d v (BitVec.ofNat 32 (128 * j.val))) S128x256.size (h j)).toLoadRect (View.loadsAt_vmem h_S128x256))
  Prog.lift (.store outM (Rect.unit (s := S8192x256) (rowOffHalf d v (BitVec.ofNat 32 (128 * j.val))) S128x256.size (h j)) r Finset.univ (View.stores_vmem_bits_univ h_S128x256 rfl) (.inl rfl))

/-- The product of the slot of step `h` with the columns. -/
def dot (h : ℕ) (d : Fin 2) : KProg F (FVec F S256x256 .f32) := do
  let v : Vec F S1x256x8192 .bf16 ← Prog.lift (.load (ringM d) (slotR (sl h)).toLoadRect (View.loadsAt_vmem h_S1x256x8192))
  let w : Vec F S8192x256 .bf16 ← Prog.lift (.load wbM allR.toLoadRect (View.loadsAt_vmem h_S8192x256))
  pure (payDot v w)

/-- The word a step `t + 1` reads its rows' origin from. -/
def oix (d : Fin 2) (t : ℕ) (h : t < 15) : Fin 33 := ⟨3 + 15 * d.val + t, by have := d.isLt; omega⟩

/-- Step `t + 1`'s exchange in direction `d`, half `j`. -/
def comm (t : ℕ) (d j : Fin 2) (dn up : Dev nD) : KProg F PUnit := do
  waitSend t d j
  waitRecv t d j
  semSignalWord up (freeS d j) 1#32
  semWaitWord (freeS d j) 1#32
  send (t + 1) d j dn
/-- Step `t + 1`'s product in direction `d`. -/
def step (t : ℕ) (ht : t < 15) (d : Fin 2) : KProg F PUnit := do
  let r ← dot (t + 1) d
  let v ← word (oix d t ht)
  have hv : chkRow d v := (← Prog.lift (TpuEff.assume (chkRow d v) (chkRow.dec d v))).down
  putRows d v hv r
/-- Step `t + 1`. -/
def hop (R L : Dev nD) (t : ℕ) (ht : t < 15) : KProg F PUnit := do
  comm t 0 0 R L
  comm t 0 1 R L
  comm t 1 0 L R
  comm t 1 1 L R
  step t ht 0
  step t ht 1

/-- The last half block of direction `d`. -/
def lastHalf (d j : Fin 2) (v : BitVec 32) (hv : chkHalf d v) : KProg F PUnit := do
  waitSend 14 d j
  waitRecv 14 d j
  let b : Vec F S1x128x8192 .bf16 ← Prog.lift (.load (ringM d) (halfR 1 j).toLoadRect (View.loadsAt_vmem h_S1x128x8192))
  let w : Vec F S8192x256 .bf16 ← Prog.lift (.load wbM allR.toLoadRect (View.loadsAt_vmem h_S8192x256))
  putHalf d v hv j (payHalf b w)
def last (d : Fin 2) : KProg F PUnit := do
  let v ← word (oix d 14 (by decide))
  have hv : chkHalf d v := (← Prog.lift (TpuEff.assume (chkHalf d v) (chkHalf.dec d v))).down
  lastHalf d 0 v hv
  lastHalf d 1 v hv

/-- Steps `t + 1` to `t + n`. -/
def hops (R L : Dev nD) : (n t : ℕ) → t + n < 16 → KProg F PUnit
  | 0, _, _ => pure ⟨⟩
  | n + 1, t, h => do
    hop R L t (by omega)
    hops R L n (t + 1) (by omega)

/-- The kernel's body. -/
def body : KProg F PUnit := do
  let v0 ← word 0
  have h0 : k0_chk3 v0 := (← Prog.lift (TpuEff.assume (k0_chk3 v0) (k0_chk3.dec v0))).down
  let v1 ← word 1
  have h1 : k0_chk2 v1 := (← Prog.lift (TpuEff.assume (k0_chk2 v1) (k0_chk2.dec v1))).down
  let v2 ← word 2
  have h2 : k0_chk1 v2 := (← Prog.lift (TpuEff.assume (k0_chk1 v2) (k0_chk1.dec v2))).down
  copyX 0 0
  copyX 1 0
  copyX 0 1
  copyX 1 1
  copyW
  semSignalWord (leftOf v2 h2) barS 1#32
  semSignalWord (rightOf v1 h1) barS 1#32
  semWaitWord barS 2#32
  fill 0 0 (rightOf v1 h1)
  fill 1 0 (leftOf v2 h2)
  fill 0 1 (rightOf v1 h1)
  fill 1 1 (leftOf v2 h2)
  fillW
  let r0 ← dot 0 0
  putRows 0 v0 h0.1 r0
  let r1 ← dot 0 1
  putRows 1 v0 h0.2 r1
  hops (rightOf v1 h1) (leftOf v2 h2) 14 0 (by decide)
  last 0
  last 1

end Cert.KernelIdeal.K
-- ==== Proof.Base.lean ====
/-
  The two rings of devices, and what the buffers hold: a block of rows by its origin, the half of a slot it sits in, and the rows of the result.
-/
module

public import proofs.«01_k».proof.Proof.Prog
public import Idealize.ShloMosaic.Lib.ValueLayout
public import Idealize.ShloMosaic.Lib.Pipeline.Value
public import Idealize.ShloMosaic.Lib.Rounds
public import Idealize.ShloMosaic.Lib.Tactic

@[expose] public section

noncomputable section

namespace Cert.KernelIdeal.K

open Idealize.ShloMosaic Idealize.ShloMosaic.ValueIdx
open Idealize.SL Idealize.SL.Sem
open Cert.KernelIdeal Cert.KernelIdeal.Gen

variable {F : FTy → Type} [FloatOps F]

/-! ### The rings -/

/-- The next device of the ring. -/
def nxt (c : Dev nD) : Dev nD := (![4, 2, 6, 0, 8, 1, 10, 3, 12, 5, 14, 7, 13, 9, 15, 11] : Fin 16 → Fin 16) c
/-- The device before. -/
def prv (c : Dev nD) : Dev nD := (![3, 5, 1, 7, 0, 9, 2, 11, 4, 13, 6, 15, 8, 12, 10, 14] : Fin 16 → Fin 16) c
theorem prv_nxt (c : Dev nD) : prv (nxt c) = c := by revert c; decide
theorem nxt_prv (c : Dev nD) : nxt (prv c) = c := by revert c; decide

/-- Whom a device sends to in direction `d`. -/
def dn (d : Fin 2) : Dev nD → Dev nD := match d with | 0 => nxt | 1 => prv
/-- Whom it receives from. -/
def up (d : Fin 2) : Dev nD → Dev nD := match d with | 0 => prv | 1 => nxt
theorem up_dn (d : Fin 2) (c : Dev nD) : up d (dn d c) = c := match d with | 0 => prv_nxt c | 1 => nxt_prv c
theorem dn_up (d : Fin 2) (c : Dev nD) : dn d (up d c) = c := match d with | 0 => nxt_prv c | 1 => prv_nxt c
def ring (d : Fin 2) : Dev nD ≃ Dev nD := ⟨dn d, up d, up_dn d, dn_up d⟩

/-- The origin of the block a device sends at step `n` in direction `d`. -/
def cur (d : Fin 2) : ℕ → Dev nD → Dev nD
  | 0, c => c
  | n + 1, c => cur d n (up d c)
theorem cur_zero (d : Fin 2) (c : Dev nD) : cur d 0 c = c := rfl
theorem cur_succ (d : Fin 2) (n : ℕ) (c : Dev nD) : cur d (n + 1) c = cur d n (up d c) := by rw [cur]
theorem cur_dn (d : Fin 2) (n : ℕ) (c : Dev nD) : cur d (n + 1) (dn d c) = cur d n c := by
  rw [cur_succ, up_dn]
set_option maxRecDepth 100000 in
theorem cur_ne_last (d : Fin 2) (c : Dev nD) : ∀ n : Fin 15, cur d n.val c ≠ cur d 15 c := by revert d c; decide +kernel
set_option maxRecDepth 100000 in
theorem cur_cover (d : Fin 2) (c o : Dev nD) : ∃ n : Fin 16, cur d n.val c = o := by revert d c o; decide +kernel

/-! ### Blocks -/

section Values

variable (X : Dev nD → Vec F S512x8192 .f32) (W : Dev nD → Vec F S8192x256 .f32)

/-- The rounded element of row `r` of the rows of device `o`. -/
def el (o : Dev nD) (r : Fin 512) (k : Fin 8192) : F .bf16 := FloatOps.truncf .bf16 bitsLt_bf16_f32 (X o (ix2 r k))

/-- Half `j` of the block of device `o` travelling in direction `d`. -/
def rowsV (d j : Fin 2) (o : Dev nD) : Vec F S128x8192 .bf16 :=
  truncf .bf16 (((xPart d j).view.read (Elt F) (X o) : Vec F S128x8192 .f32) : FVec F S128x8192 .f32) bitsLt_bf16_f32
/-- The same, as a load of the half of a slot gives it. -/
def halfV (d j : Fin 2) (o : Dev nD) : Vec F S1x128x8192 .bf16 :=
  shapeCast S1x128x8192 (rowsV X d j o) shapeCasts_S128x8192_S1x128x8192
/-- The block, as a load of a slot gives it. -/
def slotV (d : Fin 2) (o : Dev nD) : Vec F S1x256x8192 .bf16 :=
  fun y => el X o ⟨256 * d.val + (y 1).val, by have : (y 1).val < 256 := (y 1).isLt; omega⟩ (y 2)
/-- The rounded columns. -/
def wbV (c : Dev nD) : Vec F S8192x256 .bf16 := fun y => FloatOps.truncf .bf16 bitsLt_bf16_f32 (W c y)

/-- The result of device `c`, as the kernel computes it. -/
def G (c : Dev nD) : Vec F S8192x256 .f32 := fun y =>
  let o : Dev nD := ⟨(y 0).val / 512, by have := idx2_lt0 y; show _ < 16; omega⟩
  let d : Fin 2 := ⟨(y 0).val / 256 % 2, by omega⟩
  let j : Fin 2 := ⟨(y 0).val / 128 % 2, by omega⟩
  if o = cur d 15 c then payHalf (halfV X d j o) (wbV W c) (ix2 ⟨(y 0).val % 128, by omega⟩ (y 1))
  else payDot (slotV X d o) (wbV W c) (ix2 ⟨(y 0).val % 256, by omega⟩ (y 1))

/-! ### Reading the halves -/

theorem half_emb (d s j : Fin 2) (a : Fin 128) (b : Fin 8192) :
    (halfM d s j).view.emb (ix2 a b) = (ringM d).view.emb (ix3 s ⟨128 * j.val + a.val, by omega⟩ b) := by
  show ((ringM d).view.slice (halfR s j)).emb (Shape.reshapeEquiv _ (ix2 a b)) = _
  rw [show Shape.reshapeEquiv (Shape.Squeezes.numel_eq squeezes_S1x128x8192_S128x8192) (ix2 a b) = (ix3 (0 : Fin 1) a b : S1x128x8192.Idx) from
    reshapeEquiv_ix2_1ab _ a b, View.emb_slice, Function.Embedding.trans_apply]
  refine congrArg _ (funext fun x => Fin.ext ?_)
  match x with
  | ⟨0, _⟩ => show s.val + 1 * 0 = s.val; omega
  | ⟨1, _⟩ => show 128 * j.val + 1 * a.val = 128 * j.val + a.val; omega
  | ⟨2, _⟩ => show 0 + 1 * b.val = b.val; omega

theorem rowsV_apply (d j : Fin 2) (o : Dev nD) (a : Fin 128) (b : Fin 8192) :
    rowsV X d j o (ix2 a b) = el X o ⟨256 * d.val + 128 * j.val + a.val, by omega⟩ b := by
  show FloatOps.truncf .bf16 bitsLt_bf16_f32 (X o ((xPart d j).view.emb (ix2 a b))) = FloatOps.truncf .bf16 bitsLt_bf16_f32 (X o (ix2 _ b))
  refine congrArg _ (congrArg _ (funext fun x => Fin.ext ?_))
  match x with
  | ⟨0, _⟩ => show 256 * d.val + 128 * j.val + 1 * a.val = 256 * d.val + 128 * j.val + a.val; omega
  | ⟨1, _⟩ => show 0 + 1 * b.val = b.val; omega

theorem slot_emb (d s : Fin 2) (a : Fin 256) (b : Fin 8192) :
    ((ringM d).access (slotR s)).emb (ix3 (0 : Fin 1) a b) = (ringM d).view.emb (ix3 s a b) := by
  show ((ringM d).view.slice (slotR s)).emb _ = _
  rw [View.emb_slice, Function.Embedding.trans_apply]
  refine congrArg _ (funext fun x => Fin.ext ?_)
  match x with
  | ⟨0, _⟩ => show s.val + 1 * 0 = s.val; omega
  | ⟨1, _⟩ => show 0 + 1 * a.val = a.val; omega
  | ⟨2, _⟩ => show 0 + 1 * b.val = b.val; omega

/-- A slot whose halves read a block's halves reads the block. -/
theorem slot_read (d s : Fin 2) (o : Dev nD) (f : (ringM d).view.ty.Contents (Elt F))
    (h : ∀ j, (halfM d s j).view.read (Elt F) f = rowsV X d j o) :
    ((ringM d).access (slotR s)).read (Elt F) f = slotV X d o := by
  funext y
  obtain ⟨z, a, b, rfl⟩ : ∃ (z : Fin 1) (a : Fin 256) (b : Fin 8192), y = ix3 z a b := ⟨y 0, y 1, y 2, eq_ix3 y⟩
  obtain rfl : z = 0 := Subsingleton.elim _ _
  have hj : a.val / 128 < 2 := by omega
  have h1 := congrFun (h ⟨a.val / 128, hj⟩) (ix2 ⟨a.val % 128, by omega⟩ b)
  rw [rowsV_apply, View.read_apply, half_emb] at h1
  rw [View.read_apply, slot_emb]
  have e : (⟨128 * (a.val / 128) + a.val % 128, by omega⟩ : Fin 256) = a := Fin.ext (by show 128 * (a.val / 128) + a.val % 128 = a.val; omega)
  have e2 : (⟨256 * d.val + 128 * (a.val / 128) + a.val % 128, by omega⟩ : Fin 512) = ⟨256 * d.val + a.val, by omega⟩ :=
    Fin.ext (by show 256 * d.val + 128 * (a.val / 128) + a.val % 128 = 256 * d.val + a.val; omega)
  show _ = el X o ⟨256 * d.val + a.val, by omega⟩ b
  rw [← e2, ← h1]
  show _ = cast _ (f ((ringM d).view.emb (ix3 s ⟨128 * (a.val / 128) + a.val % 128, _⟩ b)))
  rw [e]

/-- What the cast of own rows leaves in slot 0. -/
theorem fill_read (d j : Fin 2) (o : Dev nD) (f : (ringM d).view.ty.Contents (Elt F)) (g : (xtM).view.ty.Contents (Elt F))
    (h : (xtPart (tix d j)).view.read (Elt F) g = (xPart d j).view.read (Elt F) (X o)) :
    (halfM d 0 j).view.read (Elt F) (((ringM d).access (halfR 0 j)).write (Elt F) f
      (k0_pay2 (F := F) ((xtM.access (xtR (tix d j))).read (Elt F) g)) Finset.univ) = rowsV X d j o := by
  have e : k0_pay2 (F := F) ((xtM.access (xtR (tix d j))).read (Elt F) g) = halfV X d j o := by
    show shapeCast S1x128x8192 (truncf .bf16 (((xtPart (tix d j)).view.read (Elt F) g : Vec F S128x8192 .f32) : FVec F S128x8192 .f32) bitsLt_bf16_f32) _ = _
    rw [h]; rfl
  rw [e]
  show shapeCast S128x8192 (((ringM d).access (halfR 0 j)).read (Elt F) (((ringM d).access (halfR 0 j)).write (Elt F) f (halfV X d j o) Finset.univ)) shapeCasts_S1x128x8192_S128x8192 = _
  rw [View.read_write_univ]
  exact shapeCast_shapeCast _ _ _

theorem half_read (d s j : Fin 2) (o : Dev nD) (f : (ringM d).view.ty.Contents (Elt F)) (h : (halfM d s j).view.read (Elt F) f = rowsV X d j o) :
    ((ringM d).access (halfR s j)).read (Elt F) f = halfV X d j o := by
  unfold halfV; rw [← h]
  exact (shapeCast_shapeCast _ shapeCasts_S1x128x8192_S128x8192 _).symm

end Values

end Cert.KernelIdeal.K
-- ==== Proof.Geo.lean ====
/-
  The pieces of the buffers: the four halves of a ring buffer, the four parts the own rows are read in and the four parts they are copied from.
-/
module

public import proofs.«01_k».proof.Proof.Base

@[expose] public section

noncomputable section

namespace Cert.KernelIdeal.K

open Idealize.ShloMosaic Idealize.ShloMosaic.ValueIdx
open Idealize.SL Idealize.SL.Sem
open Cert.KernelIdeal Cert.KernelIdeal.Gen

theorem half_set (d s j : Fin 2) : (halfM d s j).view.set = (halfR s j).set.map (ringM d).view.emb := by
  rw [View.set_reshape]; exact View.set_slice _ _
theorem mem_halfR (s j : Fin 2) (i : S2x256x8192.Idx) : i ∈ (halfR s j).set ↔ (i 0).val = s.val ∧ (i 1).val / 128 = j.val := by
  have h2 : (i 2).val < 8192 := (i 2).isLt
  rw [Rect.mem_set_unit]
  constructor
  · intro h
    have h0 : s.val ≤ (i 0).val ∧ (i 0).val < s.val + 1 := h 0
    have h1 : 128 * j.val ≤ (i 1).val ∧ (i 1).val < 128 * j.val + 128 := h 1
    omega
  · rintro ⟨h0, h1⟩ a
    match a with
    | ⟨0, _⟩ => show s.val ≤ (i 0).val ∧ (i 0).val < s.val + 1; omega
    | ⟨1, _⟩ => show 128 * j.val ≤ (i 1).val ∧ (i 1).val < 128 * j.val + 128; omega
    | ⟨2, _⟩ => show 0 ≤ (i 2).val ∧ (i 2).val < 0 + 8192; omega
theorem mem_slotR (s : Fin 2) (i : S2x256x8192.Idx) : i ∈ (slotR s).set ↔ (i 0).val = s.val := by
  have h2 : (i 2).val < 8192 := (i 2).isLt
  have h1 : (i 1).val < 256 := (i 1).isLt
  rw [Rect.mem_set_unit]
  constructor
  · intro h
    have h0 : s.val ≤ (i 0).val ∧ (i 0).val < s.val + 1 := h 0
    omega
  · rintro h0 a
    match a with
    | ⟨0, _⟩ => show s.val ≤ (i 0).val ∧ (i 0).val < s.val + 1; omega
    | ⟨1, _⟩ => show 0 ≤ (i 1).val ∧ (i 1).val < 0 + 256; omega
    | ⟨2, _⟩ => show 0 ≤ (i 2).val ∧ (i 2).val < 0 + 8192; omega
theorem half_disjoint (d : Fin 2) {p p' : Fin 2 × Fin 2} (h : p ≠ p') : Disjoint (halfM d p.1 p.2).view.set (halfM d p'.1 p'.2).view.set := by
  rw [half_set, half_set, Finset.disjoint_map, Finset.disjoint_left]
  intro i hi hi'
  rw [mem_halfR] at hi hi'
  exact h (Prod.ext (Fin.ext (hi.1.symm.trans hi'.1)) (Fin.ext (hi.2.symm.trans hi'.2)))
theorem slot_set (d s : Fin 2) : ((ringM d).access (slotR s)).set = (halfM d s 0).view.set ∪ (halfM d s 1).view.set := by
  rw [half_set, half_set, ← Finset.map_union]
  refine (View.set_slice _ _).trans (congrArg _ (Finset.ext fun i => ?_))
  have h1 : (i 1).val < 256 := (i 1).isLt
  rw [Finset.mem_union, mem_slotR, mem_halfR, mem_halfR]
  show _ ↔ ((_ ∧ (i 1).val / 128 = 0) ∨ (_ ∧ (i 1).val / 128 = 1))
  omega
theorem ring_set (d : Fin 2) : (Finset.univ : Finset (Fin 2 × Fin 2)).biUnion (fun p => (halfM d p.1 p.2).view.set) = (ringM d).view.set := by
  refine Finset.ext fun i => ?_
  rw [Finset.mem_biUnion]
  constructor
  · rintro ⟨p, -, h⟩
    rw [half_set, Finset.mem_map] at h
    obtain ⟨y, -, rfl⟩ := h
    exact View.emb_mem_set _ y
  · intro h
    obtain ⟨y, -, rfl⟩ := Finset.mem_map.mp h
    have h0 : (y 0).val < 2 := (y 0).isLt
    have h1 : (y 1).val < 256 := (y 1).isLt
    refine ⟨(⟨(y 0).val, h0⟩, ⟨(y 1).val / 128, by omega⟩), Finset.mem_univ _, ?_⟩
    rw [half_set]
    exact Finset.mem_map_of_mem _ ((mem_halfR _ _ y).mpr ⟨rfl, rfl⟩)
theorem ring_set_univ (d : Fin 2) : (ringM d).view.set = Finset.univ := match d with | 0 => View.set_whole _ | 1 => View.set_whole _

theorem xt_set (t : Fin 4) : (xtPart t).view.set = (xtR t).set := by
  rw [View.set_reshape]; exact View.set_slice_whole _ _
theorem mem_xtR (t : Fin 4) (i : S4x128x8192.Idx) : i ∈ (xtR t).set ↔ (i 0).val = t.val := by
  have h2 : (i 2).val < 8192 := (i 2).isLt
  have h1 : (i 1).val < 128 := (i 1).isLt
  rw [Rect.mem_set_unit]
  constructor
  · intro h
    have h0 : t.val ≤ (i 0).val ∧ (i 0).val < t.val + 1 := h 0
    omega
  · rintro h0 a
    match a with
    | ⟨0, _⟩ => show t.val ≤ (i 0).val ∧ (i 0).val < t.val + 1; omega
    | ⟨1, _⟩ => show 0 ≤ (i 1).val ∧ (i 1).val < 0 + 128; omega
    | ⟨2, _⟩ => show 0 ≤ (i 2).val ∧ (i 2).val < 0 + 8192; omega
theorem xt_disjoint {p p' : Fin 2 × Fin 2} (h : p ≠ p') : Disjoint (xtPart (tix p.1 p.2)).view.set (xtPart (tix p'.1 p'.2)).view.set := by
  rw [xt_set, xt_set, Finset.disjoint_left]
  intro i hi hi'
  rw [mem_xtR] at hi hi'
  have e : 2 * p.2.val + p.1.val = 2 * p'.2.val + p'.1.val := hi.symm.trans hi'
  exact h (Prod.ext (Fin.ext (by omega)) (Fin.ext (by omega)))
theorem xt_union : Finset.biUnion (β := S4x128x8192.Idx) (Finset.univ : Finset (Fin 2 × Fin 2)) (fun p => (xtPart (tix p.1 p.2)).view.set) = Finset.univ := by
  refine Finset.eq_univ_of_forall fun i => ?_
  have h0 : (i 0).val < 4 := (i 0).isLt
  rw [Finset.mem_biUnion]
  refine ⟨(⟨(i 0).val % 2, by omega⟩, ⟨(i 0).val / 2, by omega⟩), Finset.mem_univ _, ?_⟩
  rw [xt_set, mem_xtR]
  show (i 0).val = 2 * ((i 0).val / 2) + (i 0).val % 2
  omega

theorem x_set (d j : Fin 2) : (xPart d j).view.set = (Rect.unit (s := S512x8192) ![256 * d.val + 128 * j.val, 0] S128x8192.size (inbX d j)).set :=
  View.set_slice_whole _ _
theorem mem_x (d j : Fin 2) (i : S512x8192.Idx) : i ∈ (xPart d j).view.set ↔ (i 0).val / 128 = 2 * d.val + j.val := by
  have h1 : (i 1).val < 8192 := (i 1).isLt
  rw [x_set, Rect.mem_set_unit]
  constructor
  · intro h
    have h0 : 256 * d.val + 128 * j.val ≤ (i 0).val ∧ (i 0).val < 256 * d.val + 128 * j.val + 128 := h 0
    omega
  · rintro h0 a
    match a with
    | ⟨0, _⟩ => show 256 * d.val + 128 * j.val ≤ (i 0).val ∧ (i 0).val < 256 * d.val + 128 * j.val + 128; omega
    | ⟨1, _⟩ => show 0 ≤ (i 1).val ∧ (i 1).val < 0 + 8192; omega
theorem x_disjoint {p p' : Fin 2 × Fin 2} (h : p ≠ p') : Disjoint (xPart p.1 p.2).view.set (xPart p'.1 p'.2).view.set := by
  rw [Finset.disjoint_left]
  intro i hi hi'
  rw [mem_x] at hi hi'
  exact h (Prod.ext (Fin.ext (by omega)) (Fin.ext (by omega)))
theorem x_union : Finset.biUnion (β := S512x8192.Idx) (Finset.univ : Finset (Fin 2 × Fin 2)) (fun p => (xPart p.1 p.2).view.set) = Finset.univ := by
  refine Finset.eq_univ_of_forall fun i => ?_
  have h0 : (i 0).val < 512 := (i 0).isLt
  rw [Finset.mem_biUnion]
  refine ⟨(⟨(i 0).val / 256, by omega⟩, ⟨(i 0).val / 128 % 2, by omega⟩), Finset.mem_univ _, ?_⟩
  rw [mem_x]
  show (i 0).val / 128 = 2 * ((i 0).val / 256) + (i 0).val / 128 % 2
  omega

end Cert.KernelIdeal.K
-- ==== Proof.Sched.lean ====
/-
  The protocol: which cell a payment is made to, in which round, and what it hands over.
-/
module

public import proofs.«01_k».proof.Proof.Geo
public import proofs.«01_k».proof.Proof.Gen.KernelIdeal.Launch
public import Idealize.ShloMosaic.Lib.Rounds
public import Idealize.ShloMosaic.Lib.Rounds.Family
public import Idealize.ShloMosaic.Lib.Pipeline.Kit
public import Idealize.ShloMosaic.Lib.Pipeline.RegionTalk
public import Idealize.ShloMosaic.Lib.Pipeline.TalkSites

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resources: the windows' copies and this protocol's. -/
abbrev UU : Type := UR sig nD τ × URounds (GSem nD τ sig) (Fin 2)
abbrev MM (F : FTy → Type) [FloatOps F] := MT nD τ sig ℕ (Elt F) ℕ UU ℕ
local notation "𝕄" => MM F
abbrev EP : Emb (UR sig nD τ) (MM F) := embL
abbrev ER : Emb (URounds (GSem nD τ sig) (Fin 2)) (MM F) := embR
abbrev 𝒱₀ : Variants := Variants.none

/-! ### Cells -/

abbrev barC (c : Dev nD) : GSem nD τ sig := ((c : Thread nD τ), .reg barS)
abbrev sendC (c : Dev nD) (d s j : Fin 2) : GSem nD τ sig := ((c : Thread nD τ), .dma (sendS d s j))
abbrev recvC (c : Dev nD) (d s j : Fin 2) : GSem nD τ sig := ((c : Thread nD τ), .dma (recvS d s j))
abbrev freeC (c : Dev nD) (d j : Fin 2) : GSem nD τ sig := ((c : Thread nD τ), .reg (freeS d j))
abbrev xC (c : Dev nD) (t : Fin 4) : GSem nD τ sig := ((c : Thread nD τ), .dma (xS t))
abbrev wC (c : Dev nD) : GSem nD τ sig := ((c : Thread nD τ), .dma wS)

/-- What a semaphore is for. -/
inductive Role | bar | send (d s j : Fin 2) | recv (d s j : Fin 2) | free (d j : Fin 2) | x (d j : Fin 2) | w | none
  deriving DecidableEq

def bit (n : ℕ) : Fin 2 := ⟨n % 2, Nat.mod_lt _ (by decide)⟩
def roleOf : SemLoc sig → Role
  | .reg i => if i.val = 4 then .bar else .free (bit (i.val / 2)) (bit i.val)
  | .dma i => if i.val < 2 then .none
      else if i.val < 18 then
        (if (i.val - 2) / 4 % 2 = 0 then .send (bit ((i.val - 2) / 8)) (bit ((i.val - 2) / 2)) (bit (i.val - 2))
          else .recv (bit ((i.val - 2) / 8)) (bit ((i.val - 2) / 2)) (bit (i.val - 2)))
      else if i.val < 22 then .x (bit (i.val - 18)) (bit ((i.val - 18) / 2)) else .w

theorem role_bar : roleOf (.reg barS) = .bar := by decide
theorem role_send (d s j : Fin 2) : roleOf (.dma (sendS d s j)) = .send d s j := by revert d s j; decide
theorem role_recv (d s j : Fin 2) : roleOf (.dma (recvS d s j)) = .recv d s j := by revert d s j; decide
theorem role_free (d j : Fin 2) : roleOf (.reg (freeS d j)) = .free d j := by revert d j; decide
theorem role_x (d j : Fin 2) : roleOf (.dma (xS (tix d j))) = .x d j := by revert d j; decide
theorem role_w : roleOf (.dma wS) = .w := by decide

/-! ### Pieces held -/

/-- Device `c` holds the elements of `M`, at the share `q`, reading `v`. -/
def Own (c : Dev nD) {sp : Space} {s : Shape} {e : EltTy} (M : Memref sig .tc sp s e) (q : PosShare TreeShare) (v : s.Idx → Elt F e) : sProp 𝕄 :=
  iprop(∃ f : Buf (Elt F) (M.view.loc (c : Thread nD τ)), ⌜M.view.read (Elt F) f = v⌝ ∗ M.view.loc (c : Thread nD τ) ↦[M.view.set]{q} f)
/-- Device `c` holds them, reading whatever. -/
def Any (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)
instance Own_storable (c : Dev nD) {sp : Space} {s : Shape} {e : EltTy} (M : Memref sig .tc sp s e) (q : PosShare TreeShare) (v : s.Idx → Elt F e) :
    BI.Storable (upEmb : UEmb _ 𝕄) (Own c M q v) := by unfold Own; infer_instance
instance Any_storable (c : Dev nD) {sp : Space} {s : Shape} {e : EltTy} (M : Memref sig .tc sp s e) :
    BI.Storable (upEmb : UEmb _ 𝕄) (Any (F := F) c M) := by unfold Any; infer_instance

/-! ### The schedule -/

section Sched

variable (X : Dev nD → Vec F S512x8192 .f32) (W : Dev nD → Vec F S8192x256 .f32)

/-- How many units a half's transfer, an own part's copy and the columns' copy bring. -/
def NH (d : Fin 2) : ℕ := (halfM d 0 0).view.dmaCredit
def NX : ℕ := (xtPart 0).view.dmaCredit
def NW : ℕ := (wtM).view.dmaCredit
theorem NH_eq (d s j : Fin 2) : (halfM d s j).view.dmaCredit = NH d := rfl
theorem NX_eq (t : Fin 4) : (xtPart t).view.dmaCredit = NX := rfl
theorem numel_pos_h : 0 < S128x8192.numel := by decide
theorem numel_pos_w : 0 < S8192x256.numel := by decide
theorem NH_pos (d : Fin 2) : 0 < NH d := View.dmaCredit_pos (halfM d 0 0).view numel_pos_h
theorem NX_pos : 0 < NX := View.dmaCredit_pos (xtPart 0).view numel_pos_h
theorem NW_pos : 0 < NW := View.dmaCredit_pos (wtM).view numel_pos_w

def dutiesR : Role → ℕ → Finset (Fin 2)
  | .bar, r => if r = 0 then Finset.univ else ∅
  | .send d s j, r => if 2 * r + s.val < 15 then {0} else ∅
  | .recv d s j, r => if 2 * r + 1 - s.val < 15 then {0} else ∅
  | .free d j, r => if r < 14 then {0} else ∅
  | .x d j, r => if r = 0 then {0} else ∅
  | .w, r => if r = 0 then {0} else ∅
  | .none, _ => ∅
def amountR : Role → ℕ
  | .bar => 1 | .send d _ _ => NH d | .recv d _ _ => NH d | .free _ _ => 1 | .x _ _ => NX | .w => NW | .none => 1
def payR (c : Dev nD) (r : ℕ) (u : Fin 2) : Role → sProp 𝕄
  | .bar => iprop((Any (dn u c) (halfM u 1 0) ∗ reached ER (recvC (dn u c) u 1 0) 0) ∗ (Any (dn u c) (halfM u 1 1) ∗ reached ER (recvC (dn u c) u 1 1) 0))
  | .send d s j => Own c (halfM d s j) fullShare.left (rowsV X d j (cur d (2 * r + s.val) c))
  | .recv d s j => iprop(Own c (halfM d s j) fullShare (rowsV X d j (cur d (2 * r + 1 - s.val + 1) c)) ∗ reached ER (freeC (up d c) d j) (2 * r + 1 - s.val))
  | .free d j => iprop(Any (dn d c) (halfM d (sl r) j) ∗ reached ER (recvC (dn d c) d (sl r) j) ((r + 1) / 2))
  | .x d j => iprop(Own c (xtPart (tix d j)) fullShare ((xPart d j).view.read (Elt F) (X c))
      ∗ (xPart d j).view.loc (c : Thread nD τ) ↦[(xPart d j).view.set]{fullShare} X c)
  | .w => iprop(Own c wtM fullShare (W c) ∗ (wM).view.loc (c : Thread nD τ) ↦[(wM).view.set]{fullShare} W c)
  | .none => iprop(emp)

theorem amountR_pos (r : Role) : 0 < amountR r :=
  match r with
  | .bar => Nat.one_pos
  | .free _ _ => Nat.one_pos
  | .none => Nat.one_pos
  | .send d _ _ => NH_pos d
  | .recv d _ _ => NH_pos d
  | .x _ _ => NX_pos
  | .w => NW_pos

def Rd : Rounds.Schedule (GSem nD τ sig) (Fin 2) 𝕄 where
  duties g r := if g.1.2 = .tc then dutiesR (roleOf g.2) r else ∅
  unitless _ := False
  amount g _ _ := amountR (roleOf g.2)
  payload g r u := payR X W g.1.1 r u (roleOf g.2)
  amount_pos g _ _ _ := amountR_pos _

instance Rd_storable (g : GSem nD τ sig) (r : ℕ) (u : Fin 2) : BI.Storable (upEmb : UEmb _ 𝕄) ((Rd X W).payload g r u) := by
  show BI.Storable upEmb (payR X W g.1.1 r u (roleOf g.2))
  cases roleOf g.2 <;> unfold payR <;> infer_instance

theorem duties_eq (c : Dev nD) (sm : SemLoc sig) (r : ℕ) : (Rd X W).duties ((c : Thread nD τ), sm) r = dutiesR (roleOf sm) r := by
  dsimp only [Rd]; exact if_pos rfl
theorem amount_eq (c : Dev nD) (sm : SemLoc sig) (r : ℕ) (u : Fin 2) : (Rd X W).amount ((c : Thread nD τ), sm) r u = amountR (roleOf sm) := rfl
theorem payload_eq (c : Dev nD) (sm : SemLoc sig) (r : ℕ) (u : Fin 2) : (Rd X W).payload ((c : Thread nD τ), sm) r u = payR X W c r u (roleOf sm) := rfl

/-- The units a round with one payment brings, and what it hands over. -/
theorem expect_one (c : Dev nD) (sm : SemLoc sig) (r : ℕ) (R : Role) (hR : roleOf sm = R) (h : dutiesR R r = {0}) :
    (Rd X W).expect ((c : Thread nD τ), sm) r = amountR R := by
  unfold Schedule.expect Schedule.amountOf
  rw [duties_eq, hR, h, Finset.sum_singleton, amount_eq, hR]
theorem rest_one (c : Dev nD) (sm : SemLoc sig) (r : ℕ) (R : Role) (hR : roleOf sm = R) (h : dutiesR R r = {0}) :
    bigSep ((Rd X W).duties ((c : Thread nD τ), sm) r \ ∅) (fun u => (Rd X W).payload ((c : Thread nD τ), sm) r u) = payR X W c r 0 R := by
  rw [Finset.sdiff_empty, duties_eq, hR, h, bigSep_singleton, payload_eq, hR]
theorem expect_bar (c : Dev nD) : (Rd X W).expect (barC c) 0 = 2 := by
  unfold Schedule.expect Schedule.amountOf
  rw [duties_eq, role_bar]
  show (∑ u ∈ (Finset.univ : Finset (Fin 2)), amountR (roleOf (.reg barS))) = 2
  rw [role_bar]; rfl
theorem rest_bar (c : Dev nD) :
    bigSep ((Rd X W).duties (barC c) 0 \ ∅) (fun u => (Rd X W).payload (barC c) 0 u) = iprop(payR X W c 0 0 .bar ∗ payR X W c 0 1 .bar) := by
  rw [Finset.sdiff_empty, duties_eq, role_bar]
  show bigSep (Finset.univ : Finset (Fin 2)) (fun u => payR X W c 0 u (roleOf (.reg barS))) = _
  rw [role_bar]; exact BI.bigSep_fin_two _

end Sched

end Cert.KernelIdeal.K
-- ==== Proof.Kinds.lean ====
/-
  The payments a device makes, in their order, and the family of cells they are made to.
-/
module

public import proofs.«01_k».proof.Proof.Sched

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

/-! ### Pieces: sharing and joining -/

theorem own_split (c : Dev nD) {sp : Space} {s : Shape} {e : EltTy} (M : Memref sig .tc sp s e) (v : s.Idx → Elt F e) :
    Own c M fullShare v ⊢ iprop(Own c M fullShare.left v ∗ Own c M fullShare.right v) := by
  unfold Own
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

theorem agree_of_read {sp : Space} {s : Shape} {e : EltTy} (M : Memref sig .tc sp s e) {f g : M.view.ty.Contents (Elt F)}
    (h : M.view.read (Elt F) f = M.view.read (Elt F) g) : ∀ i ∈ M.view.set, f i = g i := by
  intro i hi
  obtain ⟨y, -, rfl⟩ := Finset.mem_map.mp hi
  have := congrFun h y
  rw [View.read_apply, View.read_apply] at this
  exact (cast_inj _).mp this

theorem own_join (c : Dev nD) {sp : Space} {s : Shape} {e : EltTy} (M : Memref sig .tc sp s e) (v : s.Idx → Elt F e) :
    iprop(Own c M fullShare.left v ∗ Own c M fullShare.right v) ⊢ Own c M fullShare v := by
  unfold Own
  iintro ⟨⟨%f, %hf, H1⟩, ⟨%g, %hg, H2⟩⟩
  iexists f
  isplitr; · ipureintro; exact hf
  iapply (pointsTo_share (PosShare.mem_left_op_right fullShare)).2
  isplitl [H1]; · iexact H1
  iapply (Entails.of_eq (pointsTo_congr (agree_of_read M (hg.trans hf.symm)))) $$ H2

theorem own_any (c : Dev nD) {sp : Space} {s : Shape} {e : EltTy} (M : Memref sig .tc sp s e) (v : s.Idx → Elt F e) :
    Own c M fullShare v ⊢ Any c M := by
  unfold Own Any
  iintro ⟨%f, -, H⟩
  iexists f; iexact H

/-! ### The payments -/

/-- The kinds of payment. -/
inductive Kind | bar (u : Fin 2) | recv (h : ℕ) (d j : Fin 2) | free (h : ℕ) (d j : Fin 2) | send (h : ℕ) (d j : Fin 2) | x (d j : Fin 2) | w
  deriving DecidableEq

@[reducible] def semK : Kind → SemLoc sig
  | .bar _ => .reg barS
  | .recv h d j => .dma (recvS d (sl (h + 1)) j)
  | .free _ d j => .reg (freeS d j)
  | .send h d j => .dma (sendS d (sl h) j)
  | .x d j => .dma (xS (tix d j))
  | .w => .dma wS
@[reducible] def roleK : Kind → Role
  | .bar _ => .bar
  | .recv h d j => .recv d (sl (h + 1)) j
  | .free _ d j => .free d j
  | .send h d j => .send d (sl h) j
  | .x d j => .x d j
  | .w => .w
theorem role_semK (k : Kind) : roleOf (semK k) = roleK k :=
  match k with
  | .bar _ => role_bar
  | .recv h d j => role_recv d _ j
  | .free _ d j => role_free d j
  | .send h d j => role_send d _ j
  | .x d j => role_x d j
  | .w => role_w
/-- The round a payment is made in, its place in the round, the index it is owed at, its units, and whom it goes to. -/
@[reducible] def rdK : Kind → ℕ
  | .bar _ => 0 | .recv h _ _ => h / 2 | .free h _ _ => h - 1 | .send h _ _ => h / 2 | .x _ _ => 0 | .w => 0
@[reducible] def duK : Kind → Fin 2
  | .bar u => u | .recv _ _ _ => 0 | .free _ _ _ => 0 | .send _ _ _ => 0 | .x _ _ => 0 | .w => 0
@[reducible] def ixK : Kind → ℕ
  | .bar _ => 1 | .recv h d j => 2 * (4 * h + 2 * d.val + j.val) + 3 | .free h d j => 2 * (4 * h + 2 * d.val + j.val) + 2
  | .send _ _ _ => 0 | .x _ _ => 0 | .w => 0
@[reducible] def amtK : Kind → ℕ
  | .bar _ => 1 | .recv _ d _ => NH d | .free _ _ _ => 1 | .send _ d _ => NH d | .x _ _ => NX | .w => NW
theorem amt_semK (k : Kind) : amountR (roleOf (semK k)) = amtK k := by rw [role_semK]; cases k <;> rfl
def tgt : Kind → Dev nD ≃ Dev nD
  | .bar u => (ring u).symm | .recv _ d _ => ring d | .free _ d _ => (ring d).symm
  | .send _ _ _ => Equiv.refl _ | .x _ _ => Equiv.refl _ | .w => Equiv.refl _

/-- The payment of kind `k` by device `c`, and the one device `c` gets. -/
abbrev pay (k : Kind) (c : Dev nD) : Pay nD τ sig := (((tgt k c : Dev nD).tc, semK k), ixK k, amtK k)
abbrev crd (k : Kind) (c : Dev nD) : Pay nD τ sig := ((c.tc, semK k), ixK k, amtK k)
/-- The right to make it. -/
abbrev tok (k : Kind) (c : Dev nD) : sProp 𝕄 := dutyTok ER ((((tgt k c : Dev nD).tc, semK k)) : GSem nD τ sig) (rdK k) (duK k)

/-- The remote payments of step `t + 1`, lane by lane, before those of `l`. -/
def hopK (t : ℕ) (l : List Kind) : List Kind :=
  .free (t + 1) 0 0 :: .recv (t + 1) 0 0 :: .free (t + 1) 0 1 :: .recv (t + 1) 0 1 ::
  .free (t + 1) 1 0 :: .recv (t + 1) 1 0 :: .free (t + 1) 1 1 :: .recv (t + 1) 1 1 :: l
def restK : ℕ → ℕ → List Kind
  | 0, _ => []
  | n + 1, t => hopK t (restK n (t + 1))
/-- All of a device's remote payments, in the order it makes them. -/
def dueK : List Kind := .bar 0 :: .bar 1 :: .recv 0 0 0 :: .recv 0 1 0 :: .recv 0 0 1 :: .recv 0 1 1 :: restK 14 0
def hopS (t : ℕ) (l : List Kind) : List Kind := .send (t + 1) 0 0 :: .send (t + 1) 0 1 :: .send (t + 1) 1 0 :: .send (t + 1) 1 1 :: l
def restS : ℕ → ℕ → List Kind
  | 0, _ => []
  | n + 1, t => hopS t (restS n (t + 1))
/-- The payments it makes to itself. -/
def ownK : List Kind := .x 0 0 :: .x 1 0 :: .x 0 1 :: .x 1 1 :: .w :: .send 0 0 0 :: .send 0 1 0 :: .send 0 0 1 :: .send 0 1 1 :: restS 14 0

theorem rest_ix (n t : ℕ) : ∀ k ∈ restK n t, 8 * t + 10 ≤ ixK k ∧ ixK k < 8 * (t + n) + 10 := by
  induction n generalizing t with
  | zero => intro k hk; exact absurd hk List.not_mem_nil
  | succ n ih =>
    intro k hk
    have hi := ih (t + 1)
    unfold restK hopK at hk
    simp only [List.mem_cons] at hk
    rcases hk with rfl | rfl | rfl | rfl | rfl | rfl | rfl | rfl | hk
    iterate 8 (constructor <;> (simp only [ixK]; first | omega | (simp; omega)))
    · obtain ⟨h1, h2⟩ := hi k hk
      omega

/-- The number of levels. -/
abbrev NL : ℕ := 130
theorem pays_pos (l : List Kind) (c : Dev nD) {g : GSem nD τ sig} {i : ℕ} (h : 0 < tallyL (l.map (pay · c)) g i) : ∃ k ∈ l, g = (pay k c).1 ∧ i = ixK k := by
  obtain ⟨x, hx, rfl, rfl⟩ := TalkSites.tallyL_pos h
  obtain ⟨k, hk, rfl⟩ := List.mem_map.mp hx
  exact ⟨k, hk, rfl, rfl⟩
/-- A wait at an index below those of the payments still owed. -/
theorem mayWait (l : List Kind) (c : Dev nD) (sm : SemLoc sig) (i : ℕ) (hi : i < NL) (hl : ∀ k ∈ l, i < ixK k ∧ ixK k < NL) :
    (levAts (SiteBlocks.L NL) SiteBlocks.lv : sProp 𝕄) ⊢ MayWait (c : Thread nD τ) sm i (tallyL (l.map (pay · c))) :=
  SiteBlocks.mayWait_of hi c sm _ fun g k h => by
    obtain ⟨x, hx, rfl, rfl⟩ := pays_pos l c h
    exact ⟨SiteBlocks.mem_L' rfl (hl x hx).2, (hl x hx).1⟩

/-- What device `c` still owes. -/
abbrev owing (l : List Kind) (c : Dev nD) : CellTallies nD τ sig ℕ := tallyL (l.map (pay · c))
theorem owing_cons (k : Kind) (l : List Kind) (c : Dev nD) : owing (k :: l) c = owing l c + tallyAt (pay k c).1 (ixK k) (amtK k) := by
  show tallyAt (pay k c).1 (ixK k) (amtK k) + _ = _
  exact add_comm _ _

/-! ### The family of cells -/

theorem dorm_ex : ∃ S : Finset (SemLoc sig), ∀ sm, sm ∈ S ↔ (roleOf sm ≠ .bar ∧ roleOf sm ≠ .none) :=
  ⟨Finset.univ.filter fun sm => roleOf sm ≠ .bar ∧ roleOf sm ≠ .none, fun sm => by rw [Finset.mem_filter]; exact and_iff_right (Finset.mem_univ _)⟩
/-- The cells of the kernel but the barrier. -/
def dormS : Finset (SemLoc sig) := Classical.choose dorm_ex
theorem mem_dormS_iff (sm : SemLoc sig) : sm ∈ dormS ↔ (roleOf sm ≠ .bar ∧ roleOf sm ≠ .none) := Classical.choose_spec dorm_ex sm
theorem mem_dormS {sm : SemLoc sig} (R : Role) (h : roleOf sm = R) (h1 : R ≠ .bar) (h2 : R ≠ .none) : sm ∈ dormS :=
  (mem_dormS_iff sm).mpr ⟨by rw [h]; exact h1, by rw [h]; exact h2⟩
/-- The kind of payment a cell's role, the round and the place in it tell. -/
def unK : Role → ℕ → Fin 2 → Kind
  | .bar, _, u => .bar u
  | .recv d s j, r, _ => .recv (2 * r + 1 - s.val) d j
  | .free d j, r, _ => .free (r + 1) d j
  | .send d s j, r, _ => .send (2 * r + s.val) d j
  | .x d j, _, _ => .x d j
  | .w, _, _ => .w
  | .none, _, _ => .w
theorem sl_val (h : ℕ) : (sl h).val = h % 2 := rfl
def okK : Kind → Prop
  | .free h _ _ => 0 < h
  | _ => True
theorem unK_eq (k : Kind) (h : okK k) : unK (roleK k) (rdK k) (duK k) = k := by
  cases k with
  | bar u => rfl
  | recv n d j => show Kind.recv (2 * (n / 2) + 1 - (sl (n + 1)).val) d j = _; rw [sl_val]; congr 1; omega
  | free n d j => show Kind.free (n - 1 + 1) d j = _; congr 1; exact Nat.sub_add_cancel h
  | send n d j => show Kind.send (2 * (n / 2) + (sl n).val) d j = _; rw [sl_val]; congr 1; omega
  | x d j => rfl
  | w => rfl

def allK : List Kind := dueK ++ ownK
theorem rest_ok (n t : ℕ) : ∀ k ∈ restK n t, okK k := by
  induction n generalizing t with
  | zero => intro k hk; exact absurd hk List.not_mem_nil
  | succ n ih =>
    intro k hk
    have hi := ih (t + 1)
    unfold restK hopK at hk
    simp only [List.mem_cons] at hk
    rcases hk with rfl | rfl | rfl | rfl | rfl | rfl | rfl | rfl | hk
    iterate 8 (first | exact trivial | exact Nat.succ_pos _)
    exact hi k hk
theorem rests_ok (n t : ℕ) : ∀ k ∈ restS n t, okK k := by
  induction n generalizing t with
  | zero => intro k hk; exact absurd hk List.not_mem_nil
  | succ n ih =>
    intro k hk
    have hi := ih (t + 1)
    unfold restS hopS at hk
    simp only [List.mem_cons] at hk
    rcases hk with rfl | rfl | rfl | rfl | hk
    iterate 4 exact trivial
    exact hi k hk
theorem all_ok : ∀ k ∈ allK, okK k := by
  intro k hk
  unfold allK dueK ownK at hk
  simp only [List.mem_append, List.mem_cons] at hk
  rcases hk with (rfl | rfl | rfl | rfl | rfl | rfl | hk) | (rfl | rfl | rfl | rfl | rfl | rfl | rfl | rfl | rfl | hk)
  iterate 6 exact trivial
  · exact rest_ok _ _ k hk
  iterate 9 exact trivial
  · exact rests_ok _ _ k hk
set_option maxRecDepth 100000 in
theorem all_nodup : allK.Nodup := by decide +kernel

def tokOf (c : Dev nD) (k : Kind) : GSem nD τ sig × ℕ × Fin 2 := ((((tgt k c : Dev nD).tc, semK k)), rdK k, duK k)
def toks (c : Dev nD) : Finset (GSem nD τ sig × ℕ × Fin 2) := allK.toFinset.image (tokOf c)
theorem tokOf_inj (c : Dev nD) {k k' : Kind} (h : okK k) (h' : okK k') (e : tokOf c k = tokOf c k') : k = k' := by
  have e1 : semK k = semK k' := congrArg (fun x => x.1.2) e
  have e2 : rdK k = rdK k' := congrArg (fun x => x.2.1) e
  have e3 : duK k = duK k' := congrArg (fun x => x.2.2) e
  rw [← unK_eq k h, ← unK_eq k' h', ← role_semK, ← role_semK, e1, e2, e3]

def fam : TalkSites.Fam nD τ sig (Fin 2) 1 where
  bar := .reg barS
  dorm _ := dormS
  toks c _ := toks c
  semKey _ := 0
  hsem j _ _ := Subsingleton.elim _ _
  hbar _ h := ((mem_dormS_iff _).mp h).1 role_bar
  tokKey x := ((tgt (unK (roleOf x.1.2) x.2.1 x.2.2)).symm x.1.1.1, 0)
  htok c j x hx := by
    obtain ⟨k, hk, rfl⟩ := Finset.mem_image.mp hx
    refine Prod.ext ?_ (Subsingleton.elim _ _)
    show (tgt (unK (roleOf (semK k)) (rdK k) (duK k))).symm (tgt k c) = c
    rw [role_semK, unK_eq k (all_ok k (List.mem_toFinset.mp hk)), Equiv.symm_apply_apply]

section Invs

variable (X : Dev nD → Vec F S512x8192 .f32) (W : Dev nD → Vec F S8192x256 .f32)

/-- Every cell's invariant, under the names `κ`. -/
def Invs (κ : GSem nD τ sig → ℕ) : sProp 𝕄 := fam.cellInvs ER (Rd X W) κ
instance Invs_persistent (κ : GSem nD τ sig → ℕ) : BI.Persistent (Invs X W κ) := fam.cellInvs_persistent ER (Rd X W) κ
theorem inv_bar (κ : GSem nD τ sig → ℕ) (c : Dev nD) : Invs X W κ ⊢ cellInv ER (Rd X W) (κ (barC c)) (barC c) := fam.cellInvs_bar ER (Rd X W) κ c
theorem inv_send (κ : GSem nD τ sig → ℕ) (c : Dev nD) (d s j : Fin 2) : Invs X W κ ⊢ cellInv ER (Rd X W) (κ (sendC c d s j)) (sendC c d s j) :=
  fam.cellInvs_dorm ER (Rd X W) κ c (j := 0) (mem_dormS _ (role_send d s j) (by simp) (by simp))
theorem inv_recv (κ : GSem nD τ sig → ℕ) (c : Dev nD) (d s j : Fin 2) : Invs X W κ ⊢ cellInv ER (Rd X W) (κ (recvC c d s j)) (recvC c d s j) :=
  fam.cellInvs_dorm ER (Rd X W) κ c (j := 0) (mem_dormS _ (role_recv d s j) (by simp) (by simp))
theorem inv_free (κ : GSem nD τ sig → ℕ) (c : Dev nD) (d j : Fin 2) : Invs X W κ ⊢ cellInv ER (Rd X W) (κ (freeC c d j)) (freeC c d j) :=
  fam.cellInvs_dorm ER (Rd X W) κ c (j := 0) (mem_dormS _ (role_free d j) (by simp) (by simp))
theorem inv_x (κ : GSem nD τ sig → ℕ) (c : Dev nD) (d j : Fin 2) : Invs X W κ ⊢ cellInv ER (Rd X W) (κ (xC c (tix d j))) (xC c (tix d j)) :=
  fam.cellInvs_dorm ER (Rd X W) κ c (j := 0) (mem_dormS _ (role_x d j) (by simp) (by simp))
theorem inv_w (κ : GSem nD τ sig → ℕ) (c : Dev nD) : Invs X W κ ⊢ cellInv ER (Rd X W) (κ (wC c)) (wC c) :=
  fam.cellInvs_dorm ER (Rd X W) κ c (j := 0) (mem_dormS _ role_w (by simp) (by simp))

end Invs

end Cert.KernelIdeal.K
-- ==== Proof.Facts.lean ====
/-
  What each round of each cell brings.
-/
module

public import proofs.«01_k».proof.Proof.Kinds

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)

/-- Running `p` on device `c`. -/
abbrev run (c : Dev nD) {α : Type} (p : KProg F α) (Q : α → sProp 𝕄) : sProp 𝕄 :=
  wp frame (wpE (defs₀ (F := F)) 𝒱₀ (c : Thread nD τ) none) Set.univ p Q

/-- A cell stands at the start of its round `r`. -/
abbrev At (g : GSem nD τ sig) (r : ℕ) : sProp 𝕄 := atPos ER g r ∅ 0
/-- What a device still owes, whatever it has waited for. -/
def Owe (l : List Kind) (c : Dev nD) : sProp 𝕄 := iprop(∃ V, owes (c : Thread nD τ) (owing l c) V)
/-- The cells and the levels. -/
abbrev Ctx (κ : GSem nD τ sig → ℕ) : sProp 𝕄 := iprop(Invs X W κ ∗ levAts (SiteBlocks.L NL) SiteBlocks.lv)
abbrev Crd (k : Kind) (c : Dev nD) : sProp 𝕄 := cred (crd k c).tally

variable (κ : GSem nD τ sig → ℕ) (c : Dev nD)

theorem run_bind {α β : Type} (p : KProg F α) (k : α → KProg F β) (Q : β → sProp 𝕄) : run c (p >>= k) Q = run c p (fun a => run c (k a) Q) := wp_bind _ _ _ _ _ _
theorem run_pure {α : Type} (a : α) (Q : α → sProp 𝕄) : Q a ⊢ run c (pure a) Q := by
  show Q a ⊢ wp _ _ _ (.ret a) _
  rw [wp_ret]
  iintro H; imodintro; iexact H

/-- Below everything in `l`. -/
def Above (i : ℕ) (l : List Kind) : Prop := ∀ k ∈ l, i < ixK k ∧ ixK k < NL
theorem Above.mono {i i' : ℕ} {l : List Kind} (h : Above i l) (hi : i' ≤ i) : Above i' l := fun k hk => ⟨Nat.lt_of_le_of_lt hi (h k hk).1, (h k hk).2⟩

theorem send_e (h : ℕ) : 2 * (h / 2) + (sl h).val = h := by rw [sl_val]; omega
theorem recv_e (h : ℕ) : 2 * (h / 2) + 1 - (sl (h + 1)).val = h := by rw [sl_val]; omega
theorem dutiesR_send (h : ℕ) (hh : h < 15) (d j : Fin 2) : dutiesR (.send d (sl h) j) (h / 2) = {0} := if_pos (by rw [send_e]; exact hh)
theorem dutiesR_recv (h : ℕ) (hh : h < 15) (d j : Fin 2) : dutiesR (.recv d (sl (h + 1)) j) (h / 2) = {0} := if_pos (by rw [recv_e]; exact hh)
theorem rest_send (c : Dev nD) (h : ℕ) (hh : h < 15) (d j : Fin 2) :
    bigSep ((Rd X W).duties (sendC c d (sl h) j) (h / 2) \ ∅) (fun u => (Rd X W).payload (sendC c d (sl h) j) (h / 2) u)
      = Own c (halfM d (sl h) j) fullShare.left (rowsV X d j (cur d h c)) := by
  have e : 2 * (h / 2) + (sl h).val = h := by rw [sl_val]; omega
  rw [rest_one X W c _ (h / 2) _ (role_send d (sl h) j) (dutiesR_send h hh d j)]
  show Own c (halfM d (sl h) j) fullShare.left (rowsV X d j (cur d (2 * (h / 2) + (sl h).val) c)) = _
  rw [e]
theorem duty_send (c : Dev nD) (h : ℕ) (hh : h < 15) (d j : Fin 2) : (Rd X W).duties (sendC c d (sl h) j) (h / 2) = {0} := by
  have e : 2 * (h / 2) + (sl h).val = h := by rw [sl_val]; omega
  rw [duties_eq, role_send]; exact dutiesR_send h hh d j
theorem pay_send (c : Dev nD) (h : ℕ) (d j : Fin 2) : (Rd X W).payload (sendC c d (sl h) j) (h / 2) 0 = Own c (halfM d (sl h) j) fullShare.left (rowsV X d j (cur d h c)) := by
  have e : 2 * (h / 2) + (sl h).val = h := by rw [sl_val]; omega
  rw [payload_eq, role_send]
  show Own c (halfM d (sl h) j) fullShare.left (rowsV X d j (cur d (2 * (h / 2) + (sl h).val) c)) = _
  rw [e]
theorem exp_send (c : Dev nD) (h : ℕ) (hh : h < 15) (d j : Fin 2) : (Rd X W).expect (sendC c d (sl h) j) (h / 2) = NH d := by
  have e : 2 * (h / 2) + (sl h).val = h := by rw [sl_val]; omega
  exact expect_one X W c _ (h / 2) _ (role_send d (sl h) j) (dutiesR_send h hh d j)

/-- What a transfer of step `h` brings. -/
abbrev RecvPay (c : Dev nD) (h : ℕ) (d j : Fin 2) : sProp 𝕄 :=
  iprop(Own c (halfM d (sl (h + 1)) j) fullShare (rowsV X d j (cur d (h + 1) c)) ∗ reached ER (freeC (up d c) d j) h)
theorem duty_recv (c : Dev nD) (h : ℕ) (hh : h < 15) (d j : Fin 2) : (Rd X W).duties (recvC c d (sl (h + 1)) j) (h / 2) = {0} := by
  rw [duties_eq, role_recv]; exact dutiesR_recv h hh d j
theorem pay_recv (c : Dev nD) (h : ℕ) (d j : Fin 2) : (Rd X W).payload (recvC c d (sl (h + 1)) j) (h / 2) 0 = RecvPay X c h d j := by
  rw [payload_eq, role_recv]
  show iprop(Own c (halfM d (sl (h + 1)) j) fullShare (rowsV X d j (cur d (2 * (h / 2) + 1 - (sl (h + 1)).val + 1) c)) ∗ reached ER (freeC (up d c) d j) (2 * (h / 2) + 1 - (sl (h + 1)).val)) = _
  rw [recv_e]
theorem rest_recv (c : Dev nD) (h : ℕ) (hh : h < 15) (d j : Fin 2) :
    bigSep ((Rd X W).duties (recvC c d (sl (h + 1)) j) (h / 2) \ ∅) (fun u => (Rd X W).payload (recvC c d (sl (h + 1)) j) (h / 2) u) = RecvPay X c h d j := by
  rw [duty_recv X W c h hh, Finset.sdiff_empty, bigSep_singleton, pay_recv]
theorem exp_recv (c : Dev nD) (h : ℕ) (hh : h < 15) (d j : Fin 2) : (Rd X W).expect (recvC c d (sl (h + 1)) j) (h / 2) = NH d :=
  expect_one X W c _ (h / 2) _ (role_recv d (sl (h + 1)) j) (dutiesR_recv h hh d j)

theorem duty_free (c : Dev nD) (t : ℕ) (ht : t < 14) (d j : Fin 2) : (Rd X W).duties (freeC c d j) t = {0} := by
  rw [duties_eq, role_free]; exact if_pos ht
abbrev FreePay (c : Dev nD) (t : ℕ) (d j : Fin 2) : sProp 𝕄 :=
  iprop(Any (dn d c) (halfM d (sl t) j) ∗ reached ER (recvC (dn d c) d (sl t) j) ((t + 1) / 2))
theorem pay_free (c : Dev nD) (t : ℕ) (d j : Fin 2) : (Rd X W).payload (freeC c d j) t 0 = FreePay (F := F) c t d j := by
  rw [payload_eq, role_free]; rfl
theorem rest_free (c : Dev nD) (t : ℕ) (ht : t < 14) (d j : Fin 2) :
    bigSep ((Rd X W).duties (freeC c d j) t \ ∅) (fun u => (Rd X W).payload (freeC c d j) t u) = FreePay (F := F) c t d j := by
  rw [duty_free X W c t ht, Finset.sdiff_empty, bigSep_singleton, pay_free]
theorem exp_free (c : Dev nD) (t : ℕ) (ht : t < 14) (d j : Fin 2) : (Rd X W).expect (freeC c d j) t = 1 :=
  expect_one X W c _ t _ (role_free d j) (if_pos ht)

theorem half_succ (h : ℕ) : h / 2 + 1 = (h + 2) / 2 := by omega
theorem sl_two (h : ℕ) : sl (h + 2) = sl h := Fin.ext (by rw [sl_val, sl_val]; omega)

end Cert.KernelIdeal.K
-- ==== Proof.Steps.lean ====
/-
  The exchange's single steps.
-/
module

public import proofs.«01_k».proof.Proof.Facts

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)
variable (κ : GSem nD τ sig → ℕ) (c : Dev nD)

/-- A send's end. -/
theorem waitSend_step (h : ℕ) (hh : h < 15) (d j : Fin 2) (l : List Kind) (hl : Above 0 l) (Q : PUnit → sProp 𝕄) :
    iprop(Ctx X W κ ∗ (Crd (.send h d j) c ∗ Owe l c ∗ At (sendC c d (sl h) j) (h / 2)) ∗
      ((Owe l c ∗ At (sendC c d (sl h) j) ((h + 2) / 2) ∗ reached ER (sendC c d (sl h) j) ((h + 2) / 2)
        ∗ Own c (halfM d (sl h) j) fullShare.left (rowsV X d j (cur d h c))) -∗ Q ⟨⟩))
      ⊢ run c (waitSend h d j) Q := by
  rw [← half_succ, ← rest_send X W c h hh d j]
  unfold waitSend run Owe
  iintro ⟨⟨#Hi, #Hl⟩, ⟨Hc, ⟨%V, HO⟩, Ha⟩, Hk⟩
  ihave #HI := (inv_send X W κ c d (sl h) j) $$ Hi
  iapply (Rounds.wp_wait_rest_token 𝒱₀ ER (Rd X W) (c : Thread nD τ) none (κ := κ (sendC c d (sl h) j))
      (wpE_waitDma2_eq (src := halfM d (sl (h + 1)) j) (dst := halfM d (sl h) j) 𝒱₀ (c : Thread nD τ) none Set.univ) (Set.mem_univ _) 0 (O := owing l c) (W := V) (R := h / 2) (m := 0) (T := ∅)
      ((Nat.zero_add _).trans (exp_send X W c h hh d j).symm)) $$ [Hc HO Ha]
  · isplitr; · iexact HI
    isplitl [Hc]; · iexact Hc
    isplitl [HO]; · iexact HO
    isplitr; · iapply (mayWait l c _ 0 (by decide) hl); iexact Hl
    iexact Ha
  iintro ⟨HO, Ha, Hr, Hp⟩
  rw [wp_ret]
  imodintro
  iapply Hk
  isplitl [HO]; · iexists _; iexact HO
  isplitl [Ha]; · iexact Ha
  isplitl [Hr]; · iexact Hr
  iexact Hp

/-- A transfer's arrival. -/
theorem waitRecv_step (h : ℕ) (hh : h < 15) (d j : Fin 2) (l : List Kind) (hl : Above (ixK (.recv h d j)) l) (Q : PUnit → sProp 𝕄) :
    iprop(Ctx X W κ ∗ (Crd (.recv h d j) c ∗ Owe l c ∗ At (recvC c d (sl (h + 1)) j) (h / 2)) ∗
      ((Owe l c ∗ At (recvC c d (sl (h + 1)) j) ((h + 2) / 2) ∗ reached ER (recvC c d (sl (h + 1)) j) ((h + 2) / 2) ∗ RecvPay X c h d j) -∗ Q ⟨⟩))
      ⊢ run c (waitRecv h d j) Q := by
  rw [← half_succ, ← rest_recv X W c h hh d j]
  unfold waitRecv run Owe
  iintro ⟨⟨#Hi, #Hl⟩, ⟨Hc, ⟨%V, HO⟩, Ha⟩, Hk⟩
  ihave #HI := (inv_recv X W κ c d (sl (h + 1)) j) $$ Hi
  iapply (Rounds.wp_wait_rest_token 𝒱₀ ER (Rd X W) (c : Thread nD τ) none (κ := κ (recvC c d (sl (h + 1)) j))
      (wpE_waitDma2_eq (src := halfM d (sl h) j) (dst := halfM d (sl (h + 1)) j) 𝒱₀ (c : Thread nD τ) none Set.univ) (Set.mem_univ _) (ixK (.recv h d j)) (O := owing l c) (W := V) (R := h / 2) (m := 0) (T := ∅)
      ((Nat.zero_add _).trans (exp_recv X W c h hh d j).symm)) $$ [Hc HO Ha]
  · isplitr; · iexact HI
    isplitl [Hc]; · iexact Hc
    isplitl [HO]; · iexact HO
    isplitr; · iapply (mayWait l c _ _ (by have := d.isLt; have := j.isLt; show 2 * (4 * h + 2 * d.val + j.val) + 3 < 130; omega) hl); iexact Hl
    iexact Ha
  iintro ⟨HO, Ha, Hr, Hp⟩
  rw [wp_ret]
  imodintro
  iapply Hk
  isplitl [HO]; · iexists _; iexact HO
  isplitl [Ha]; · iexact Ha
  isplitl [Hr]; · iexact Hr
  iexact Hp

/-- Telling the neighbour that the slot sent at step `t` is free. -/
theorem signal_step (t : ℕ) (ht : t < 14) (d j : Fin 2) (l : List Kind) (Q : PUnit → sProp 𝕄) :
    iprop(Ctx X W κ ∗ (tok (.free (t + 1) d j) c ∗ Owe (.free (t + 1) d j :: l) c ∗ FreePay (F := F) (up d c) t d j ∗ reached ER (freeC (up d c) d j) t) ∗
      (Owe l c -∗ Q ⟨⟩))
      ⊢ run c (semSignalWord (up d c) (freeS d j) 1#32) Q := by
  rw [← pay_free X W (up d c) t d j]
  unfold Owe
  rw [owing_cons]
  iintro ⟨⟨#Hi, #Hl⟩, ⟨Ht, ⟨%V, HO⟩, Hp, Hr⟩, Hk⟩
  ihave #HI := (inv_free X W κ (up d c) d j) $$ Hi
  iapply (Rounds.wp_signal 𝒱₀ ER (Rd X W) (c : Thread nD τ) none (dst := (up d c : Thread nD τ)) (sem := freeS d j) (r := t) (d := 0) (κ := κ (freeC (up d c) d j)) (k' := 1)
      (by rw [duty_free X W _ t ht]; exact Finset.mem_singleton_self _) (by rw [amount_eq, role_free]; rfl) (ixK (.free (t + 1) d j)) (owing l c) rfl)
    $$ [HO Ht Hp Hr]
  · isplitr; · iexact HI
    isplitl [HO]; · iexact HO
    isplitl [Ht]; · iexact Ht
    isplitl [Hp]; · iexact Hp
    iexact Hr
  iintro HO
  rw [wp_ret]
  imodintro
  iapply Hk
  iexists _; iexact HO

/-- Waiting for the neighbour's slot. -/
theorem waitFree_step (t : ℕ) (ht : t < 14) (d j : Fin 2) (l : List Kind) (hl : Above (ixK (.free (t + 1) d j)) l) (Q : PUnit → sProp 𝕄) :
    iprop(Ctx X W κ ∗ (Crd (.free (t + 1) d j) c ∗ Owe l c ∗ At (freeC c d j) t) ∗
      ((Owe l c ∗ At (freeC c d j) (t + 1) ∗ reached ER (freeC c d j) (t + 1) ∗ FreePay (F := F) c t d j) -∗ Q ⟨⟩))
      ⊢ run c (semWaitWord (freeS d j) 1#32) Q := by
  rw [← rest_free X W c t ht d j]
  unfold Owe
  iintro ⟨⟨#Hi, #Hl⟩, ⟨Hc, ⟨%V, HO⟩, Ha⟩, Hk⟩
  ihave #HI := (inv_free X W κ c d j) $$ Hi
  iapply (Rounds.wp_wait_rest_token 𝒱₀ ER (Rd X W) (c : Thread nD τ) none (κ := κ (freeC c d j))
      (wpE_semWait_eq 𝒱₀ (c : Thread nD τ) none Set.univ) (Set.mem_univ _) (ixK (.free (t + 1) d j)) (O := owing l c) (W := V) (R := t) (m := 0) (T := ∅)
      ((Nat.zero_add _).trans (exp_free X W c t ht d j).symm)) $$ [Hc HO Ha]
  · isplitr; · iexact HI
    isplitl [Hc]; · iexact Hc
    isplitl [HO]; · iexact HO
    isplitr; · iapply (mayWait l c _ _ (by have := d.isLt; have := j.isLt; show 2 * (4 * (t + 1) + 2 * d.val + j.val) + 2 < 130; omega) hl); iexact Hl
    iexact Ha
  iintro ⟨HO, Ha, Hr, Hp⟩
  rw [wp_ret]
  imodintro
  iapply Hk
  isplitl [HO]; · iexists _; iexact HO
  isplitl [Ha]; · iexact Ha
  isplitl [Hr]; · iexact Hr
  iexact Hp

/-- A send to the neighbour of direction `d`. -/
theorem send_step (h : ℕ) (hh : h < 15) (d j : Fin 2) (l : List Kind) (Q : PUnit → sProp 𝕄) :
    iprop(Ctx X W κ ∗ (Own c (halfM d (sl h) j) fullShare.left (rowsV X d j (cur d h c)) ∗ Any (dn d c) (halfM d (sl (h + 1)) j)
        ∗ reached ER (freeC c d j) h ∗ Owe (.recv h d j :: l) c ∗ tok (.send h d j) c ∗ reached ER (sendC c d (sl h) j) (h / 2)
        ∗ tok (.recv h d j) c ∗ reached ER (recvC (dn d c) d (sl (h + 1)) j) (h / 2)) ∗
      ((Crd (.send h d j) c ∗ Owe l c) -∗ Q ⟨⟩))
      ⊢ run c (send h d j (dn d c)) Q := by
  unfold send Owe Any
  conv_lhs => unfold Own
  rw [owing_cons]
  iintro ⟨⟨#Hi, #Hl⟩, ⟨⟨%fs, %hfs, Hs⟩, ⟨%fd, Hd⟩, HF, ⟨%V, HO⟩, Ht, Hr, Ht', Hr'⟩, Hk⟩
  ihave #HI := (inv_send X W κ c d (sl h) j) $$ Hi
  ihave #HI' := (inv_recv X W κ (dn d c) d (sl (h + 1)) j) $$ Hi
  iapply (Rounds.wp_send_pointsTo_with 𝒱₀ ER (Rd X W) (c : Thread nD τ) none (c' := (dn d c : Thread nD τ)) (src := halfM d (sl h) j) (dst := halfM d (sl (h + 1)) j)
      (sS := .dma (sendS d (sl h) j)) (sem := .dma (recvS d (sl (h + 1)) j)) (q := fullShare.left) (fs := fs) (κ₁ := κ (sendC c d (sl h) j)) (κ₂ := κ (recvC (dn d c) d (sl (h + 1)) j))
      (r₁ := h / 2) (r₂ := h / 2) (d₁ := 0) (d₂ := 0) (fd := fd) (F := reached ER (freeC c d j) h)
      (by rw [duty_send X W c h hh]; exact Finset.mem_singleton_self _) (by rw [duty_recv X W _ h hh]; exact Finset.mem_singleton_self _)
      (ixK (.recv h d j)) 0 (NH d) (NH_eq d _ j) (by rw [amount_eq, role_send]; rfl) (by rw [amount_eq, role_recv]; rfl) (owing l c) rfl (W := V)
      ?p1 ?p2) $$ [Hs Hd HF HO Ht Hr Ht' Hr']
  case p1 =>
    rw [pay_send]; unfold Own
    iintro H; iexists fs; isplitr; · ipureintro; exact hfs
    iexact H
  case p2 =>
    rw [pay_recv]; unfold RecvPay Own
    rw [cur_dn, up_dn]
    iintro ⟨H, HF⟩
    isplitr [HF]
    · iexists _; isplitr
      rotate_left
      · iexact H
      · ipureintro; exact (View.read_write_univ _ _).trans hfs
    iexact HF
  · isplitr; · iexact HI
    isplitr; · iexact HI'
    isplitl [Hs]; · iexact Hs
    isplitl [Hd HF]
    · isplitl [Hd]; · iexact Hd
      iexact HF
    isplitl [HO]; · iexact HO
    isplitl [Ht]; · iexact Ht
    isplitl [Hr]; · iexact Hr
    isplitl [Ht']; · iexact Ht'
    iexact Hr'
  iintro ⟨Hc, HO⟩
  rw [wp_ret]
  imodintro
  iapply Hk
  isplitl [Hc]; · iexact Hc
  iexists _; iexact HO

end Cert.KernelIdeal.K
-- ==== Proof.Comm.lean ====
/-
  One step's exchange in one lane.
-/
module

public import proofs.«01_k».proof.Proof.Steps

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)
variable (κ : GSem nD τ sig → ℕ) (c : Dev nD)

/-- A lane before step `t + 1`'s exchange: direction `d`, half `j`. -/
def Lane (t : ℕ) (d j : Fin 2) : sProp 𝕄 :=
  iprop(Own c (halfM d (sl t) j) fullShare.right (rowsV X d j (cur d t c)) ∗ Crd (.send t d j) c ∗ Crd (.recv t d j) c
    ∗ At (sendC c d (sl t) j) (t / 2) ∗ At (sendC c d (sl (t + 1)) j) ((t + 1) / 2)
    ∗ At (recvC c d (sl (t + 1)) j) (t / 2) ∗ At (recvC c d (sl t) j) ((t + 1) / 2) ∗ At (freeC c d j) t
    ∗ reached ER (sendC c d (sl (t + 1)) j) ((t + 1) / 2) ∗ reached ER (recvC c d (sl t) j) ((t + 1) / 2))

/-- What the exchange of step `t + 1` spends in a lane. -/
def laneRes (t : ℕ) (d j : Fin 2) : sProp 𝕄 :=
  iprop(tok (.free (t + 1) d j) c ∗ Crd (.free (t + 1) d j) c ∗ tok (.recv (t + 1) d j) c ∗ Crd (.recv (t + 1) d j) c ∗ tok (.send (t + 1) d j) c)

theorem ctx_dup {P Q R : sProp 𝕄} [BI.Persistent P] (h : iprop(P ∗ Q) ⊢ R) : iprop(P ∗ Q) ⊢ iprop(P ∗ R) := by
  iintro ⟨#HP, HQ⟩
  isplitr; · iexact HP
  iapply h
  isplitr; · iexact HP
  iexact HQ

theorem comm_step (t : ℕ) (ht : t < 14) (d j : Fin 2) (l : List Kind) (hl : Above (ixK (.recv (t + 1) d j)) l) (Q : PUnit → sProp 𝕄) :
    iprop(Ctx X W κ ∗ (Lane X c t d j ∗ laneRes c t d j ∗ Owe (.free (t + 1) d j :: .recv (t + 1) d j :: l) c) ∗
      ((Lane X c (t + 1) d j ∗ Owe l c) -∗ Q ⟨⟩))
      ⊢ run c (comm t d j (dn d c) (up d c)) Q := by
  have hd := d.isLt
  have hj := j.isLt
  have hr : Above (ixK (.free (t + 1) d j)) (.recv (t + 1) d j :: l) := by
    intro k hk
    rcases List.mem_cons.mp hk with rfl | hk
    · simp only [ixK, NL]; omega
    · have := hl k hk; simp only [ixK, NL] at this ⊢; omega
  have hf : Above (ixK (.recv t d j)) (.free (t + 1) d j :: .recv (t + 1) d j :: l) := by
    intro k hk
    rcases List.mem_cons.mp hk with rfl | hk
    · simp only [ixK, NL]; omega
    · have := hr k hk; simp only [ixK, NL] at this ⊢; omega
  unfold comm Lane laneRes
  rw [run_bind, show sl (t + 1 + 1) = sl t from sl_two t]
  iintro ⟨#Hx, ⟨⟨HoR, HcS, HcR, HaS, HaS', HaR, HaR', HaF, #HrS', #HrR⟩, ⟨HtF, HcF, HtR, HcR', HtS⟩, HO⟩, Hk⟩
  iapply (waitSend_step X W κ c t (by omega) d j _ (hf.mono (Nat.zero_le _)))
  isplitr; · iexact Hx
  isplitl [HcS HO HaS]
  · isplitl [HcS]; · iexact HcS
    isplitl [HO]; · iexact HO
    iexact HaS
  iintro ⟨HO, HaS, #HrS, HoL⟩
  ihave Ho := (own_join c (halfM d (sl t) j) _) $$ [HoL HoR]
  · isplitl [HoL]; · iexact HoL
    iexact HoR
  ihave Hany := (own_any c _ _) $$ Ho
  rw [run_bind]
  iapply (waitRecv_step X W κ c t (by omega) d j _ hf)
  isplitr; · iexact Hx
  isplitl [HcR HO HaR]
  · isplitl [HcR]; · iexact HcR
    isplitl [HO]; · iexact HO
    iexact HaR
  iintro ⟨HO, HaR, #HrR2, ⟨Ho, #HrFu⟩⟩
  rw [run_bind]
  iapply (signal_step X W κ c t ht d j _)
  isplitr; · iexact Hx
  isplitl [HtF HO Hany]
  · isplitl [HtF]; · iexact HtF
    isplitl [HO]; · iexact HO
    isplitl [Hany]
    · unfold FreePay
      rw [dn_up]
      isplitl [Hany]; · iexact Hany
      iexact HrR
    iexact HrFu
  iintro HO
  rw [run_bind]
  iapply (waitFree_step X W κ c t ht d j _ hr)
  isplitr; · iexact Hx
  isplitl [HcF HO HaF]
  · isplitl [HcF]; · iexact HcF
    isplitl [HO]; · iexact HO
    iexact HaF
  iintro ⟨HO, HaF, #HrF, ⟨Hdn, #HrDn⟩⟩
  ihave Hsp := (own_split c (halfM d (sl (t + 1)) j) _) $$ Ho
  icases Hsp with ⟨HoL, HoR⟩
  iapply (send_step X W κ c (t + 1) (by omega) d j l)
  isplitr; · iexact Hx
  rw [show sl (t + 1 + 1) = sl t from sl_two t]
  isplitl [HoL Hdn HO HtS HtR]
  · isplitl [HoL]; · iexact HoL
    isplitl [Hdn]; · iexact Hdn
    isplitr; · iexact HrF
    isplitl [HO]; · iexact HO
    isplitl [HtS]; · iexact HtS
    isplitr; · iexact HrS'
    isplitl [HtR]; · iexact HtR
    iexact HrDn
  iintro ⟨HcS, HO⟩
  iapply Hk
  isplitr [HO]
  · isplitl [HoR]; · iexact HoR
    isplitl [HcS]; · iexact HcS
    isplitl [HcR']; · iexact HcR'
    isplitl [HaS']; · iexact HaS'
    isplitl [HaS]; · iexact HaS
    isplitl [HaR']; · iexact HaR'
    isplitl [HaR]; · iexact HaR
    isplitl [HaF]; · iexact HaF
    isplitr; · iexact HrS
    iexact HrR2
  iexact HO

end Cert.KernelIdeal.K
-- ==== Proof.Compute.lean ====
/-
  The table, the products and the stores of the result.
-/
module

public import proofs.«01_k».proof.Proof.Comm

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)
variable (c : Dev nD)

/-! ### The table -/

/-- The device at position `i` of device `c`'s table. -/
def tblD (c : Dev nD) (i : ℕ) : Dev nD :=
  if i = 0 then c else if i = 1 then nxt c else if i = 2 then prv c else if i < 18 then cur 0 (i - 2) c else cur 1 (i - 17) c
/-- A device's number, as a word. -/
def dword (o : Dev nD) : BitVec 32 := BitVec.ofNat 32 o.val
def tblV (c : Dev nD) : Vec F S33 .i32 := fun y => dword (tblD c (y 0).val)

theorem tbl_zero : tblD c 0 = c := rfl
theorem tbl_one : tblD c 1 = nxt c := rfl
theorem tbl_two : tblD c 2 = prv c := rfl
theorem tbl_oix (d : Fin 2) (t : ℕ) (ht : t < 15) : tblD c (oix d t ht).val = cur d (t + 1) c := by
  unfold tblD oix
  match d with
  | 0 =>
    have e : 3 + 15 * (0 : Fin 2).val + t = t + 3 := by show 3 + 15 * 0 + t = _; omega
    simp only [e]
    rw [if_neg (by omega), if_neg (by omega), if_neg (by omega), if_pos (by omega)]
    rfl
  | 1 =>
    have e : 3 + 15 * (1 : Fin 2).val + t = t + 18 := by show 3 + 15 * 1 + t = _; omega
    simp only [e]
    rw [if_neg (by omega), if_neg (by omega), if_neg (by omega), if_neg (by omega)]
    rfl

theorem word_step (i : Fin 33) (Q : BitVec 32 → sProp 𝕄) :
    iprop(Own c tblM fullShare (tblV c) ∗ (Own c tblM fullShare (tblV c) -∗ Q (dword (tblD c i.val)))) ⊢ run c (word i) Q := by
  unfold word smemLoad Own
  iintro ⟨⟨%f, %hf, H⟩, Hk⟩
  iapply (wp_smemLoadElt 𝒱₀ (c : Thread nD τ) none Set.univ (m := tblM) (r := Rect.unit (s := S33) ![i.val] S1.size (inb33 i)) (S := (tblM).view.set) (by rw [View.set_whole]; exact Finset.subset_univ _)) $$ H
  iintro H
  rw [wp_ret]
  imodintro
  have e : ((tblM).access (Rect.unit (s := S33) ![i.val] S1.size (inb33 i))).read (Elt F) f (Shape.Idx.first (numel1_S1.symm ▸ Nat.one_pos)) = dword (tblD c i.val) := by
    show (tblM).view.read (Elt F) f ((Rect.unit (s := S33) ![i.val] S1.size (inb33 i)).emb _) = _
    rw [hf]
    show dword (tblD c (i.val + 1 * 0)) = _
    rw [Nat.mul_zero, Nat.add_zero]
  rw [e]
  iapply Hk
  iexists f; isplitr; · ipureintro; exact hf
  iexact H

theorem right_dword : ∀ (o : Dev nD) (h : k0_chk2 (dword o)), rightOf (dword o) h = o := by
  have : ∀ o : Dev nD, k0_dev2 (dword o) = o.val := by decide +kernel
  exact fun o h => Fin.ext (this o)
theorem left_dword : ∀ (o : Dev nD) (h : k0_chk1 (dword o)), leftOf (dword o) h = o := by
  have : ∀ o : Dev nD, k0_dev1 (dword o) = o.val := by decide +kernel
  exact fun o h => Fin.ext (this o)
theorem chk1_dword : ∀ o : Dev nD, k0_chk1 (dword o) := by decide +kernel
theorem chk2_dword : ∀ o : Dev nD, k0_chk2 (dword o) := by decide +kernel
theorem chk3_dword : ∀ o : Dev nD, k0_chk3 (dword o) := by decide +kernel
theorem row_dword : ∀ (d : Fin 2) (o : Dev nD), (rowOff d (dword o)) 0 = 512 * o.val + 256 * d.val ∧ (rowOff d (dword o)) 1 = 0 := by decide +kernel
theorem rowHalf_dword : ∀ (d : Fin 2) (o : Dev nD) (j : Fin 2),
    (rowOffHalf d (dword o) (BitVec.ofNat 32 (128 * j.val))) 0 = 512 * o.val + 256 * d.val + 128 * j.val ∧ (rowOffHalf d (dword o) (BitVec.ofNat 32 (128 * j.val))) 1 = 0 := by decide +kernel
theorem chkRow_dword (d : Fin 2) (o : Dev nD) : chkRow d (dword o) := by
  intro a
  have ho := o.isLt
  have hd := d.isLt
  match a with
  | 0 => rw [(row_dword d o).1]; show 512 * o.val + 256 * d.val + 256 ≤ 8192; have : o.val < 16 := ho; omega
  | 1 => rw [(row_dword d o).2]; show 0 + 256 ≤ 256; omega
theorem chkHalf_dword (d : Fin 2) (o : Dev nD) : chkHalf d (dword o) := by
  intro j a
  have ho := o.isLt
  have hd := d.isLt
  have hj := j.isLt
  match a with
  | 0 => rw [(rowHalf_dword d o j).1]; show 512 * o.val + 256 * d.val + 128 * j.val + 128 ≤ 8192; have : o.val < 16 := ho; omega
  | 1 => rw [(rowHalf_dword d o j).2]; show 0 + 256 ≤ 256; omega

/-! ### The products -/

abbrev Wb : sProp 𝕄 := Own c wbM fullShare (wbV W c)
abbrev Tbl : sProp 𝕄 := Own c tblM fullShare (tblV (F := F) c)

theorem loadW_step {β : Type} (k : Vec F S8192x256 .bf16 → KProg F β) (Q : β → sProp 𝕄) :
    iprop(Wb W c ∗ (Wb W c -∗ run c (k (wbV W c)) Q)) ⊢ run c (Prog.lift (.load wbM allR.toLoadRect (View.loadsAt_vmem h_S8192x256)) >>= k) Q := by
  rw [run_bind]
  unfold Wb Own
  iintro ⟨⟨%f, %hf, H⟩, Hk⟩
  iapply (wp_load_rect 𝒱₀ (c : Thread nD τ) none Set.univ (m := wbM) (r := allR) (S := (wbM).view.set) (by rw [View.set_whole]; exact Finset.subset_univ _)) $$ H
  iintro H
  rw [wp_ret]
  imodintro
  have e : ((wbM).access allR).read (Elt F) f = wbV W c := by
    funext y
    show (wbM).view.read (Elt F) f (allR.emb y) = _
    rw [hf]
    refine congrArg _ (funext fun a => Fin.ext ?_)
    match a with
    | ⟨0, _⟩ => show 0 + 1 * (y 0).val = (y 0).val; omega
    | ⟨1, _⟩ => show 0 + 1 * (y 1).val = (y 1).val; omega
  rw [e]
  iapply Hk
  iexists f; isplitr; · ipureintro; exact hf
  iexact H

theorem own_pair (d s : Fin 2) (q : PosShare TreeShare) (o : Dev nD) :
    iprop(Own c (halfM d s 0) q (rowsV X d 0 o) ∗ Own c (halfM d s 1) q (rowsV X d 1 o))
      ⊢ iprop(∃ f : Buf (Elt F) ((ringM d).view.loc (c : Thread nD τ)), ⌜∀ j, (halfM d s j).view.read (Elt F) f = rowsV X d j o⌝
          ∗ (ringM d).view.loc (c : Thread nD τ) ↦[((ringM d).access (slotR s)).set]{q} f) := by
  have hdis : Disjoint (halfM d s 0).view.set (halfM d s 1).view.set := half_disjoint d (p := (s, 0)) (p' := (s, 1)) (by simp)
  unfold Own
  iintro ⟨⟨%f, %hf, H0⟩, ⟨%g, %hg, H1⟩⟩
  iexists (halfM d s 1).view.set.piecewise g f
  isplitr
  · ipureintro
    intro j
    match j with
    | 0 =>
      refine (funext fun y => ?_).trans hf
      exact congrArg (cast _) (Finset.piecewise_eq_of_notMem _ _ _ (Finset.disjoint_left.mp hdis (View.emb_mem_set (halfM d s 0).view y)))
    | 1 =>
      refine (funext fun y => ?_).trans hg
      exact congrArg (cast _) (Finset.piecewise_eq_of_mem _ _ _ (View.emb_mem_set (halfM d s 1).view y))
  rw [slot_set]
  iapply (pointsTo_join hdis)
  isplitl [H0]; · iexact H0
  iexact H1
theorem pair_own (d s : Fin 2) (q : PosShare TreeShare) (o : Dev nD) (f : Buf (Elt F) ((ringM d).view.loc (c : Thread nD τ)))
    (hf : ∀ j, (halfM d s j).view.read (Elt F) f = rowsV X d j o) :
    (iprop((ringM d).view.loc (c : Thread nD τ) ↦[((ringM d).access (slotR s)).set]{q} f) : sProp 𝕄)
      ⊢ iprop(Own c (halfM d s 0) q (rowsV X d 0 o) ∗ Own c (halfM d s 1) q (rowsV X d 1 o)) := by
  have hdis : Disjoint (halfM d s 0).view.set (halfM d s 1).view.set := half_disjoint d (p := (s, 0)) (p' := (s, 1)) (by simp)
  rw [slot_set]
  unfold Own
  iintro H
  ihave H' := (pointsTo_union hdis).1 $$ H
  icases H' with ⟨H0, H1⟩
  isplitl [H0]
  · iexists f; isplitr; · ipureintro; exact hf 0
    iexact H0
  · iexists f; isplitr; · ipureintro; exact hf 1
    iexact H1

theorem dot_step (h : ℕ) (d : Fin 2) (q : PosShare TreeShare) (o : Dev nD) (Q : FVec F S256x256 .f32 → sProp 𝕄) :
    iprop((Own c (halfM d (sl h) 0) q (rowsV X d 0 o) ∗ Own c (halfM d (sl h) 1) q (rowsV X d 1 o)) ∗ Wb W c ∗
      (((Own c (halfM d (sl h) 0) q (rowsV X d 0 o) ∗ Own c (halfM d (sl h) 1) q (rowsV X d 1 o)) ∗ Wb W c) -∗ Q (payDot (slotV X d o) (wbV W c))))
      ⊢ run c (dot h d) Q := by
  unfold dot
  rw [run_bind]
  iintro ⟨Ho, Hw, Hk⟩
  ihave Hp := (own_pair X c d (sl h) q o) $$ Ho
  icases Hp with ⟨%f, %hf, H⟩
  iapply (wp_load_rect 𝒱₀ (c : Thread nD τ) none Set.univ (m := ringM d) (r := slotR (sl h)) (f := f) (Finset.Subset.refl _)) $$ H
  iintro H
  rw [wp_ret]
  imodintro
  rw [slot_read X d (sl h) o f hf]
  iapply (loadW_step W c)
  isplitl [Hw]; · iexact Hw
  iintro Hw
  iapply (run_pure c)
  iapply Hk
  isplitl [H]
  · iapply (pair_own X c d (sl h) q o f hf) $$ H
  iexact Hw

/-! ### The result -/

/-- Device `c`'s result buffer, right where `D` holds. -/
def OutInv (D : S8192x256.Idx → Prop) : sProp 𝕄 :=
  iprop(∃ f : Buf (Elt F) ((outM).view.loc (c : Thread nD τ)), ⌜∀ y : S8192x256.Idx, D y → (outM).view.read (Elt F) f y = G X W c y⌝ ∗ (outM).view.loc (c : Thread nD τ) ↦[(outM).view.set]{fullShare} f)

theorem put_step (r : Rect S8192x256) (w : r.shape.Idx → Elt F .f32) (hl : (outM).view.LoadsAt r.toLoadRect) (hx : ((outM).access r).Stores Finset.univ)
    (hm : (Finset.univ : Finset r.shape.Idx) = Finset.univ ∨ ∀ a, r.stride a = 1) (D D' : S8192x256.Idx → Prop)
    (hD : ∀ y, D' y → D y ∨ ∃ x, r.emb x = y) (hw : ∀ x, w x = G X W c (r.emb x)) (Q : PUnit → sProp 𝕄) :
    iprop(OutInv X W c D ∗ (OutInv X W c D' -∗ Q ⟨⟩))
      ⊢ run c (do
          let _v ← Prog.lift (.load outM r.toLoadRect hl)
          Prog.lift (.store outM r w Finset.univ hx hm)) Q := by
  rw [run_bind]
  unfold OutInv
  iintro ⟨⟨%f, %hf, H⟩, Hk⟩
  iapply (wp_load_rect 𝒱₀ (c : Thread nD τ) none Set.univ (m := outM) (r := r) (S := (outM).view.set) (by rw [View.set_whole]; exact Finset.subset_univ _)) $$ H
  iintro H
  rw [wp_ret]
  imodintro
  iapply (wp_store 𝒱₀ (c : Thread nD τ) none Set.univ (m := outM) (r := r) (S := (outM).view.set) (by rw [View.set_whole]; exact Finset.subset_univ _)) $$ H
  iintro H
  rw [wp_ret]
  imodintro
  iapply Hk
  iexists _
  isplitr
  rotate_left
  · iexact H
  ipureintro
  intro y hy
  by_cases hr : ∃ x, r.emb x = y
  · obtain ⟨x, rfl⟩ := hr
    rw [← hw x]
    exact congrFun (View.read_write_univ (v := (outM).access r) f w) x
  · have hd := (hD y hy).resolve_right hr
    rw [← hf y hd]
    refine congrArg (cast _) (View.write_of_not_mem (v := (outM).access r) f w Finset.univ fun hy' => ?_)
    obtain ⟨x, -, hx'⟩ := Finset.mem_map.mp hy'
    exact hr ⟨x, hx'⟩

end Cert.KernelIdeal.K
-- ==== Proof.Hops.lean ====
/-
  The steps.
-/
module

public import proofs.«01_k».proof.Proof.Compute

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)
variable (κ : GSem nD τ sig → ℕ) (c : Dev nD)

/-! ### The rows of the result -/

theorem G_rows (o d' j : ℕ) (ho : o < 16) (hd : d' < 2) (y : S8192x256.Idx) (h0 : (y 0).val / 256 = 2 * o + d')
    (hne : (⟨o, ho⟩ : Dev nD) ≠ cur ⟨d', hd⟩ 15 c) :
    G X W c y = payDot (slotV X ⟨d', hd⟩ ⟨o, ho⟩) (wbV W c) (ix2 ⟨(y 0).val % 256, Nat.mod_lt _ (by decide)⟩ (y 1)) := by
  obtain rfl : o = (y 0).val / 512 := by omega
  obtain rfl : d' = (y 0).val / 256 % 2 := by omega
  exact if_neg hne
theorem G_half (o d' j : ℕ) (ho : o < 16) (hd : d' < 2) (hj : j < 2) (y : S8192x256.Idx) (h0 : (y 0).val / 128 = 4 * o + 2 * d' + j)
    (hne : (⟨o, ho⟩ : Dev nD) = cur ⟨d', hd⟩ 15 c) :
    G X W c y = payHalf (halfV X ⟨d', hd⟩ ⟨j, hj⟩ ⟨o, ho⟩) (wbV W c) (ix2 ⟨(y 0).val % 128, Nat.mod_lt _ (by decide)⟩ (y 1)) := by
  obtain rfl : o = (y 0).val / 512 := by omega
  obtain rfl : d' = (y 0).val / 256 % 2 := by omega
  obtain rfl : j = (y 0).val / 128 % 2 := by omega
  exact if_pos hne

theorem putRows_step (d : Fin 2) (o : Dev nD) (h : chkRow d (dword o)) (hne : o ≠ cur d 15 c) (D : S8192x256.Idx → Prop) (Q : PUnit → sProp 𝕄) :
    iprop(OutInv X W c D ∗ (OutInv X W c (fun y => D y ∨ (y 0).val / 256 = 2 * o.val + d.val) -∗ Q ⟨⟩))
      ⊢ run c (putRows d (dword o) h (payDot (slotV X d o) (wbV W c))) Q := by
  obtain ⟨e0, e1⟩ := row_dword d o
  have hd := d.isLt
  unfold putRows
  refine put_step X W c (Rect.unit (s := S8192x256) (rowOff d (dword o)) S256x256.size h) _ _ _ _ D _ ?_ ?_ Q
  · intro y hy
    refine hy.imp_right fun hy => ?_
    have hy0 : (y 0).val < 8192 := (y 0).isLt
    have hy1 : (y 1).val < 256 := (y 1).isLt
    refine ⟨ix2 ⟨(y 0).val % 256, Nat.mod_lt _ (by decide)⟩ ⟨(y 1).val, hy1⟩, funext fun a => Fin.ext ?_⟩
    match a with
    | ⟨0, _⟩ => show (rowOff d (dword o)) 0 + 1 * ((y 0).val % 256) = (y 0).val; rw [e0]; omega
    | ⟨1, _⟩ => show (rowOff d (dword o)) 1 + 1 * (y 1).val = (y 1).val; rw [e1]; omega
  · intro x
    obtain ⟨a, b, rfl⟩ : ∃ (a : Fin 256) (b : Fin 256), x = ix2 a b := ⟨x 0, x 1, eq_ix2 x⟩
    have f0 : (((Rect.unit (s := S8192x256) (rowOff d (dword o)) S256x256.size h).emb (ix2 a b)) 0).val = 512 * o.val + 256 * d.val + a.val := by
      show (rowOff d (dword o)) 0 + 1 * a.val = _; rw [e0]; omega
    have f1 : (((Rect.unit (s := S8192x256) (rowOff d (dword o)) S256x256.size h).emb (ix2 a b)) 1) = b := Fin.ext (by
      show (rowOff d (dword o)) 1 + 1 * b.val = _; rw [e1]; omega)
    rw [G_rows X W c o.val d.val 0 o.isLt hd _ (by rw [f0]; omega) hne]
    refine congrArg _ ?_
    rw [f1]
    exact congrArg (fun z => ix2 z b) (Fin.ext (by show a.val = _ % 256; rw [f0]; omega))

theorem putHalf_step (d j : Fin 2) (o : Dev nD) (h : chkHalf d (dword o)) (hne : o = cur d 15 c) (D : S8192x256.Idx → Prop) (Q : PUnit → sProp 𝕄) :
    iprop(OutInv X W c D ∗ (OutInv X W c (fun y => D y ∨ (y 0).val / 128 = 4 * o.val + 2 * d.val + j.val) -∗ Q ⟨⟩))
      ⊢ run c (putHalf d (dword o) h j (payHalf (halfV X d j o) (wbV W c))) Q := by
  obtain ⟨e0, e1⟩ := rowHalf_dword d o j
  have hd := d.isLt
  have hj := j.isLt
  unfold putHalf
  refine put_step X W c (Rect.unit (s := S8192x256) (rowOffHalf d (dword o) (BitVec.ofNat 32 (128 * j.val))) S128x256.size (h j)) _ _ _ _ D _ ?_ ?_ Q
  · intro y hy
    refine hy.imp_right fun hy => ?_
    have hy0 : (y 0).val < 8192 := (y 0).isLt
    have hy1 : (y 1).val < 256 := (y 1).isLt
    refine ⟨ix2 ⟨(y 0).val % 128, Nat.mod_lt _ (by decide)⟩ ⟨(y 1).val, hy1⟩, funext fun a => Fin.ext ?_⟩
    match a with
    | ⟨0, _⟩ => show (rowOffHalf d (dword o) (BitVec.ofNat 32 (128 * j.val))) 0 + 1 * ((y 0).val % 128) = (y 0).val; rw [e0]; omega
    | ⟨1, _⟩ => show (rowOffHalf d (dword o) (BitVec.ofNat 32 (128 * j.val))) 1 + 1 * (y 1).val = (y 1).val; rw [e1]; omega
  · intro x
    obtain ⟨a, b, rfl⟩ : ∃ (a : Fin 128) (b : Fin 256), x = ix2 a b := ⟨x 0, x 1, eq_ix2 x⟩
    have f0 : (((Rect.unit (s := S8192x256) (rowOffHalf d (dword o) (BitVec.ofNat 32 (128 * j.val))) S128x256.size (h j)).emb (ix2 a b)) 0).val = 512 * o.val + 256 * d.val + 128 * j.val + a.val := by
      show (rowOffHalf d (dword o) (BitVec.ofNat 32 (128 * j.val))) 0 + 1 * a.val = _; rw [e0]; omega
    have f1 : (((Rect.unit (s := S8192x256) (rowOffHalf d (dword o) (BitVec.ofNat 32 (128 * j.val))) S128x256.size (h j)).emb (ix2 a b)) 1) = b := Fin.ext (by
      show (rowOffHalf d (dword o) (BitVec.ofNat 32 (128 * j.val))) 1 + 1 * b.val = _; rw [e1]; omega)
    rw [G_half X W c o.val d.val j.val o.isLt hd hj _ (by rw [f0]; omega) hne]
    refine congrArg _ ?_
    rw [f1]
    exact congrArg (fun z => ix2 z b) (Fin.ext (by show a.val = _ % 128; rw [f0]; omega))

/-- The rows written once the blocks of the first `n` steps are done. -/
def Dom (n : ℕ) (y : S8192x256.Idx) : Prop := ∃ d : Fin 2, ∃ m < n, (y 0).val / 256 = 2 * (cur d m c).val + d.val
theorem dom_succ (n : ℕ) (y : S8192x256.Idx) (h : Dom c (n + 1) y) :
    (Dom c n y ∨ (y 0).val / 256 = 2 * (cur 0 n c).val + (0 : Fin 2).val) ∨ (y 0).val / 256 = 2 * (cur 1 n c).val + (1 : Fin 2).val := by
  obtain ⟨d, m, hm, e⟩ := h
  rcases Nat.lt_or_ge m n with h | h
  · exact .inl (.inl ⟨d, m, h, e⟩)
  · obtain rfl : m = n := by omega
    match d with
    | 0 => exact .inl (.inr e)
    | 1 => exact .inr e
theorem out_mono {D D' : S8192x256.Idx → Prop} (h : ∀ y, D' y → D y) : OutInv X W c D ⊢ OutInv X W c D' := by
  unfold OutInv
  iintro ⟨%f, %hf, H⟩
  iexists f
  isplitr; · ipureintro; exact fun y hy => hf y (h y hy)
  iexact H

/-! ### A step -/

/-- A lane without the half it holds. -/
def LaneR (t : ℕ) (d j : Fin 2) : sProp 𝕄 :=
  iprop(Crd (.send t d j) c ∗ Crd (.recv t d j) c
    ∗ At (sendC c d (sl t) j) (t / 2) ∗ At (sendC c d (sl (t + 1)) j) ((t + 1) / 2)
    ∗ At (recvC c d (sl (t + 1)) j) (t / 2) ∗ At (recvC c d (sl t) j) ((t + 1) / 2) ∗ At (freeC c d j) t
    ∗ reached ER (sendC c d (sl (t + 1)) j) ((t + 1) / 2) ∗ reached ER (recvC c d (sl t) j) ((t + 1) / 2))
theorem lane_eq (t : ℕ) (d j : Fin 2) : Lane X c t d j = iprop(Own c (halfM d (sl t) j) fullShare.right (rowsV X d j (cur d t c)) ∗ LaneR (F := F) c t d j) := rfl

theorem step_step (t : ℕ) (ht : t < 14) (d : Fin 2) (D : S8192x256.Idx → Prop) (Q : PUnit → sProp 𝕄) :
    iprop(((Lane X c (t + 1) d 0 ∗ Lane X c (t + 1) d 1) ∗ Wb W c ∗ Tbl (F := F) c ∗ OutInv X W c D) ∗
      (((Lane X c (t + 1) d 0 ∗ Lane X c (t + 1) d 1) ∗ Wb W c ∗ Tbl (F := F) c
        ∗ OutInv X W c (fun y => D y ∨ (y 0).val / 256 = 2 * (cur d (t + 1) c).val + d.val)) -∗ Q ⟨⟩))
      ⊢ run c (step t (by omega) d) Q := by
  unfold step
  rw [run_bind, lane_eq, lane_eq]
  iintro ⟨⟨⟨⟨Ho0, Hl0⟩, ⟨Ho1, Hl1⟩⟩, Hw, Ht, Hout⟩, Hk⟩
  iapply (dot_step X W c (t + 1) d fullShare.right (cur d (t + 1) c))
  isplitl [Ho0 Ho1]
  · isplitl [Ho0]; · iexact Ho0
    iexact Ho1
  isplitl [Hw]; · iexact Hw
  iintro ⟨⟨Ho0, Ho1⟩, Hw⟩
  rw [run_bind]
  iapply (word_step c (oix d t _))
  isplitl [Ht]; · iexact Ht
  iintro Ht
  rw [tbl_oix, run_bind]
  iapply (wp_assume 𝒱₀ (c : Thread nD τ) none Set.univ (chkRow_dword d (cur d (t + 1) c)))
  rw [wp_ret]
  imodintro
  iapply (putRows_step X W c d (cur d (t + 1) c) _ (cur_ne_last d c ⟨t + 1, by omega⟩) D)
  isplitl [Hout]; · iexact Hout
  iintro Hout
  iapply Hk
  isplitl [Ho0 Hl0 Ho1 Hl1]
  · isplitl [Ho0 Hl0]
    · isplitl [Ho0]; · iexact Ho0
      iexact Hl0
    isplitl [Ho1]; · iexact Ho1
    iexact Hl1
  isplitl [Hw]; · iexact Hw
  isplitl [Ht]; · iexact Ht
  iexact Hout

/-- The four lanes. -/
abbrev Lanes (t : ℕ) : sProp 𝕄 := iprop((Lane X c t 0 0 ∗ Lane X c t 0 1) ∗ Lane X c t 1 0 ∗ Lane X c t 1 1)
abbrev hopRes (t : ℕ) : sProp 𝕄 := iprop((laneRes (F := F) c t 0 0 ∗ laneRes c t 0 1) ∗ laneRes c t 1 0 ∗ laneRes c t 1 1)
def hopsRes : ℕ → ℕ → sProp 𝕄
  | 0, _ => iprop(emp)
  | n + 1, t => iprop(hopRes (F := F) c t ∗ hopsRes n (t + 1))

theorem above_rest (n t : ℕ) (h : t + n ≤ 14) (i : ℕ) (hi : i < 8 * t + 10) : Above i (restK n t) := by
  intro k hk
  have := rest_ix n t k hk
  simp only [NL]; omega
theorem above_cons (i : ℕ) (k : Kind) (l : List Kind) (h1 : i < ixK k) (h2 : ixK k < NL) (h : Above i l) : Above i (k :: l) := by
  intro k' hk'
  rcases List.mem_cons.mp hk' with rfl | hk'
  · exact ⟨h1, h2⟩
  · exact h k' hk'

theorem hop_step (n t : ℕ) (ht : t + (n + 1) ≤ 14) (Q : PUnit → sProp 𝕄) :
    iprop(Ctx X W κ ∗ (Lanes X c t ∗ hopRes (F := F) c t ∗ Owe (restK (n + 1) t) c ∗ Wb W c ∗ Tbl (F := F) c ∗ OutInv X W c (Dom c (t + 1))) ∗
      ((Lanes X c (t + 1) ∗ Owe (restK n (t + 1)) c ∗ Wb W c ∗ Tbl (F := F) c ∗ OutInv X W c (Dom c (t + 2))) -∗ Q ⟨⟩))
      ⊢ run c (hop (nxt c) (prv c) t (by omega)) Q := by
  have h11 : Above (ixK (.recv (t + 1) 1 1)) (restK n (t + 1)) := above_rest n (t + 1) (by omega) _ (by show 2 * (4 * (t + 1) + 2 * 1 + 1) + 3 < _; omega)
  have h10 : Above (ixK (.recv (t + 1) 1 0)) (.free (t + 1) 1 1 :: .recv (t + 1) 1 1 :: restK n (t + 1)) := by
    refine above_cons _ _ _ (by show 2 * (4 * (t + 1) + 2 * 1 + 0) + 3 < 2 * (4 * (t + 1) + 2 * 1 + 1) + 2; omega) (by show 2 * (4 * (t + 1) + 2 * 1 + 1) + 2 < 130; omega)
      (above_cons _ _ _ (by show 2 * (4 * (t + 1) + 2 * 1 + 0) + 3 < 2 * (4 * (t + 1) + 2 * 1 + 1) + 3; omega) (by show 2 * (4 * (t + 1) + 2 * 1 + 1) + 3 < 130; omega)
      (h11.mono (by show 2 * (4 * (t + 1) + 2 * 1 + 0) + 3 ≤ 2 * (4 * (t + 1) + 2 * 1 + 1) + 3; omega)))
  have h01 : Above (ixK (.recv (t + 1) 0 1)) (.free (t + 1) 1 0 :: .recv (t + 1) 1 0 :: .free (t + 1) 1 1 :: .recv (t + 1) 1 1 :: restK n (t + 1)) := by
    refine above_cons _ _ _ (by show 2 * (4 * (t + 1) + 2 * 0 + 1) + 3 < 2 * (4 * (t + 1) + 2 * 1 + 0) + 2; omega) (by show 2 * (4 * (t + 1) + 2 * 1 + 0) + 2 < 130; omega)
      (above_cons _ _ _ (by show 2 * (4 * (t + 1) + 2 * 0 + 1) + 3 < 2 * (4 * (t + 1) + 2 * 1 + 0) + 3; omega) (by show 2 * (4 * (t + 1) + 2 * 1 + 0) + 3 < 130; omega)
      (h10.mono (by show 2 * (4 * (t + 1) + 2 * 0 + 1) + 3 ≤ 2 * (4 * (t + 1) + 2 * 1 + 0) + 3; omega)))
  have h00 : Above (ixK (.recv (t + 1) 0 0)) (.free (t + 1) 0 1 :: .recv (t + 1) 0 1 :: .free (t + 1) 1 0 :: .recv (t + 1) 1 0 :: .free (t + 1) 1 1 :: .recv (t + 1) 1 1 :: restK n (t + 1)) := by
    refine above_cons _ _ _ (by show 2 * (4 * (t + 1) + 2 * 0 + 0) + 3 < 2 * (4 * (t + 1) + 2 * 0 + 1) + 2; omega) (by show 2 * (4 * (t + 1) + 2 * 0 + 1) + 2 < 130; omega)
      (above_cons _ _ _ (by show 2 * (4 * (t + 1) + 2 * 0 + 0) + 3 < 2 * (4 * (t + 1) + 2 * 0 + 1) + 3; omega) (by show 2 * (4 * (t + 1) + 2 * 0 + 1) + 3 < 130; omega)
      (h01.mono (by show 2 * (4 * (t + 1) + 2 * 0 + 0) + 3 ≤ 2 * (4 * (t + 1) + 2 * 0 + 1) + 3; omega)))
  unfold hop
  rw [run_bind, show restK (n + 1) t = hopK t (restK n (t + 1)) from rfl]
  unfold hopK
  iintro ⟨#Hx, ⟨⟨⟨L00, L01⟩, L10, L11⟩, ⟨⟨R00, R01⟩, R10, R11⟩, HO, Hw, Ht, Hout⟩, Hk⟩
  iapply (comm_step X W κ c t (by omega) 0 0 _ h00)
  isplitr; · iexact Hx
  isplitl [L00 R00 HO]
  · isplitl [L00]; · iexact L00
    isplitl [R00]; · iexact R00
    iexact HO
  iintro ⟨L00, HO⟩
  rw [run_bind]
  iapply (comm_step X W κ c t (by omega) 0 1 _ h01)
  isplitr; · iexact Hx
  isplitl [L01 R01 HO]
  · isplitl [L01]; · iexact L01
    isplitl [R01]; · iexact R01
    iexact HO
  iintro ⟨L01, HO⟩
  rw [run_bind]
  iapply (comm_step X W κ c t (by omega) 1 0 _ h10)
  isplitr; · iexact Hx
  isplitl [L10 R10 HO]
  · isplitl [L10]; · iexact L10
    isplitl [R10]; · iexact R10
    iexact HO
  iintro ⟨L10, HO⟩
  rw [run_bind]
  iapply (comm_step X W κ c t (by omega) 1 1 _ h11)
  isplitr; · iexact Hx
  isplitl [L11 R11 HO]
  · isplitl [L11]; · iexact L11
    isplitl [R11]; · iexact R11
    iexact HO
  iintro ⟨L11, HO⟩
  rw [run_bind]
  iapply (step_step X W c t (by omega) 0 (Dom c (t + 1)))
  isplitl [L00 L01 Hw Ht Hout]
  · isplitl [L00 L01]
    · isplitl [L00]; · iexact L00
      iexact L01
    isplitl [Hw]; · iexact Hw
    isplitl [Ht]; · iexact Ht
    iexact Hout
  iintro ⟨⟨L00, L01⟩, Hw, Ht, Hout⟩
  iapply (step_step X W c t (by omega) 1 _)
  isplitl [L10 L11 Hw Ht Hout]
  · isplitl [L10 L11]
    · isplitl [L10]; · iexact L10
      iexact L11
    isplitl [Hw]; · iexact Hw
    isplitl [Ht]; · iexact Ht
    iexact Hout
  iintro ⟨⟨L10, L11⟩, Hw, Ht, Hout⟩
  iapply Hk
  isplitl [L00 L01 L10 L11]
  · isplitl [L00 L01]
    · isplitl [L00]; · iexact L00
      iexact L01
    isplitl [L10]; · iexact L10
    iexact L11
  isplitl [HO]; · iexact HO
  isplitl [Hw]; · iexact Hw
  isplitl [Ht]; · iexact Ht
  iapply (out_mono X W c (dom_succ c (t + 1))) $$ Hout

theorem hops_step (n t : ℕ) (ht : t + n ≤ 14) (Q : PUnit → sProp 𝕄) :
    iprop(Ctx X W κ ∗ (Lanes X c t ∗ hopsRes (F := F) c n t ∗ Owe (restK n t) c ∗ Wb W c ∗ Tbl (F := F) c ∗ OutInv X W c (Dom c (t + 1))) ∗
      ((Lanes X c (t + n) ∗ Owe [] c ∗ Wb W c ∗ Tbl (F := F) c ∗ OutInv X W c (Dom c (t + n + 1))) -∗ Q ⟨⟩))
      ⊢ run c (hops (nxt c) (prv c) n t (by omega)) Q := by
  induction n generalizing t with
  | zero =>
    iintro ⟨#Hx, ⟨HL, -, HO, Hw, Ht, Hout⟩, Hk⟩
    iapply (run_pure c)
    iapply Hk
    isplitl [HL]; · iexact HL
    isplitl [HO]; · iexact HO
    isplitl [Hw]; · iexact Hw
    isplitl [Ht]; · iexact Ht
    iexact Hout
  | succ n ih =>
    unfold hops
    rw [run_bind, show hopsRes (F := F) c (n + 1) t = iprop(hopRes (F := F) c t ∗ hopsRes c n (t + 1)) from rfl]
    iintro ⟨#Hx, ⟨HL, ⟨HR, HRs⟩, HO, Hw, Ht, Hout⟩, Hk⟩
    iapply (hop_step X W κ c n t ht)
    isplitr; · iexact Hx
    isplitr [HRs Hk]
    · isplitl [HL]; · iexact HL
      isplitl [HR]; · iexact HR
      isplitl [HO]; · iexact HO
      isplitl [Hw]; · iexact Hw
      isplitl [Ht]; · iexact Ht
      iexact Hout
    iintro ⟨HL, HO, Hw, Ht, Hout⟩
    iapply (ih (t + 1) (by omega))
    isplitr; · iexact Hx
    isplitr [Hk]
    · isplitl [HL]; · iexact HL
      isplitl [HRs]; · iexact HRs
      isplitl [HO]; · iexact HO
      isplitl [Hw]; · iexact Hw
      isplitl [Ht]; · iexact Ht
      iexact Hout
    rw [show t + 1 + n = t + (n + 1) from by omega]
    iexact Hk

end Cert.KernelIdeal.K
-- ==== Proof.Ends.lean ====
/-
  The opening and the last step.
-/
module

public import proofs.«01_k».proof.Proof.Hops

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)
variable (κ : GSem nD τ sig → ℕ) (c : Dev nD)

abbrev XPts (d j : Fin 2) : sProp 𝕄 := (xPart d j).view.loc (c : Thread nD τ) ↦[(xPart d j).view.set]{fullShare} X c
abbrev WPts : sProp 𝕄 := (wM).view.loc (c : Thread nD τ) ↦[(wM).view.set]{fullShare} W c

/-! ### The copies of the own rows and of the columns -/

theorem copyX_step (d j : Fin 2) (Q : PUnit → sProp 𝕄) :
    iprop(Ctx X W κ ∗ (tok (.x d j) c ∗ Any c (xtPart (tix d j)) ∗ XPts X c d j ∗ reached ER (xC c (tix d j)) 0) ∗ (Crd (.x d j) c -∗ Q ⟨⟩))
      ⊢ run c (copyX d j) Q := by
  unfold copyX Any
  iintro ⟨⟨#Hi, -⟩, ⟨Ht, ⟨%fd, Hd⟩, Hs, Hr⟩, Hk⟩
  ihave #HI := (inv_x X W κ c d j) $$ Hi
  iapply (Rounds.wp_copy_pointsTo 𝒱₀ ER (Rd X W) (c : Thread nD τ) none (src := xPart d j) (dst := xtPart (tix d j)) (sem := .dma (xS (tix d j))) (q := fullShare)
      (fs := X c) (fd := fd) (r := 0) (d := 0) (κ := κ (xC c (tix d j)))
      (by rw [duties_eq, role_x]; exact Finset.mem_singleton_self _) 0 NX (NX_eq _) (by rw [amount_eq, role_x]; rfl)
      (by
        rw [payload_eq, role_x]
        unfold payR Own
        iintro ⟨H, H'⟩
        isplitl [H]
        · iexists _; isplitr
          rotate_left
          · iexact H
          · ipureintro; exact View.read_write_univ _ _
        iexact H')) $$ [Ht Hd Hs Hr]
  · isplitr; · iexact HI
    isplitl [Hs]; · iexact Hs
    isplitl [Hd]; · iexact Hd
    isplitl [Ht]; · iexact Ht
    iexact Hr
  iintro Hc
  rw [wp_ret]
  imodintro
  iapply Hk; iexact Hc

theorem copyW_step (Q : PUnit → sProp 𝕄) :
    iprop(Ctx X W κ ∗ (tok .w c ∗ Any c wtM ∗ WPts W c ∗ reached ER (wC c) 0) ∗ (Crd .w c -∗ Q ⟨⟩))
      ⊢ run c copyW Q := by
  unfold copyW Any
  iintro ⟨⟨#Hi, -⟩, ⟨Ht, ⟨%fd, Hd⟩, Hs, Hr⟩, Hk⟩
  ihave #HI := (inv_w X W κ c) $$ Hi
  iapply (Rounds.wp_copy_pointsTo 𝒱₀ ER (Rd X W) (c : Thread nD τ) none (src := wM) (dst := wtM) (sem := .dma wS) (q := fullShare)
      (fs := W c) (fd := fd) (r := 0) (d := 0) (κ := κ (wC c))
      (by rw [duties_eq, role_w]; exact Finset.mem_singleton_self _) 0 NW rfl (by rw [amount_eq, role_w]; rfl)
      (by
        rw [payload_eq, role_w]
        unfold payR Own
        iintro ⟨H, H'⟩
        isplitl [H]
        · iexists _; isplitr
          rotate_left
          · iexact H
          · ipureintro; exact View.read_write_univ _ _
        iexact H')) $$ [Ht Hd Hs Hr]
  · isplitr; · iexact HI
    isplitl [Hs]; · iexact Hs
    isplitl [Hd]; · iexact Hd
    isplitl [Ht]; · iexact Ht
    iexact Hr
  iintro Hc
  rw [wp_ret]
  imodintro
  iapply Hk; iexact Hc

/-! ### The barrier -/

/-- What a device hands to the neighbour it receives from in direction `u`. -/
abbrev BarIn (u : Fin 2) : sProp 𝕄 :=
  iprop((Any (F := F) c (halfM u 1 0) ∗ reached ER (recvC c u 1 0) 0) ∗ (Any c (halfM u 1 1) ∗ reached ER (recvC c u 1 1) 0))

theorem sigBar_step (u : Fin 2) (l : List Kind) (Q : PUnit → sProp 𝕄) :
    iprop(Ctx X W κ ∗ (tok (.bar u) c ∗ Owe (.bar u :: l) c ∗ BarIn (F := F) c u ∗ reached ER (barC (up u c)) 0) ∗ (Owe l c -∗ Q ⟨⟩))
      ⊢ run c (semSignalWord (up u c) barS 1#32) Q := by
  unfold Owe
  rw [owing_cons]
  iintro ⟨⟨#Hi, -⟩, ⟨Ht, ⟨%V, HO⟩, Hp, Hr⟩, Hk⟩
  ihave #HI := (inv_bar X W κ (up u c)) $$ Hi
  iapply (Rounds.wp_signal 𝒱₀ ER (Rd X W) (c : Thread nD τ) none (dst := (up u c : Thread nD τ)) (sem := barS) (r := 0) (d := u) (κ := κ (barC (up u c))) (k' := 1)
      (by rw [duties_eq, role_bar]; exact Finset.mem_univ _) (by rw [amount_eq, role_bar]; rfl) 1 (owing l c) rfl) $$ [HO Ht Hp Hr]
  · isplitr; · iexact HI
    isplitl [HO]; · iexact HO
    isplitl [Ht]; · iexact Ht
    isplitl [Hp]
    · rw [payload_eq, role_bar]
      unfold payR
      rw [dn_up]
      iexact Hp
    iexact Hr
  iintro HO
  rw [wp_ret]
  imodintro
  iapply Hk
  iexists _; iexact HO

theorem waitBar_step (l : List Kind) (hl : Above 1 l) (Q : PUnit → sProp 𝕄) :
    iprop(Ctx X W κ ∗ ((Crd (.bar 0) c ∗ Crd (.bar 1) c) ∗ Owe l c ∗ At (barC c) 0) ∗
      ((Owe l c ∗ At (barC c) 1 ∗ BarIn (F := F) (dn 0 c) 0 ∗ BarIn (F := F) (dn 1 c) 1) -∗ Q ⟨⟩))
      ⊢ run c (semWaitWord barS 2#32) Q := by
  have hrest := rest_bar X W c
  unfold Owe
  iintro ⟨⟨#Hi, #Hl⟩, ⟨Hc, ⟨%V, HO⟩, Ha⟩, Hk⟩
  ihave #HI := (inv_bar X W κ c) $$ Hi
  ihave Hc2 := (cred_add (tallyAt (barC c) 1 1) (tallyAt (barC c) 1 1)).2 $$ Hc
  rw [show (tallyAt (barC c) 1 1 + tallyAt (barC c) 1 1 : CellTallies nD τ sig ℕ) = tallyAt (barC c) 1 2 from tallyAt_add (barC c) 1 1 1]
  iapply (Rounds.wp_wait_rest_token 𝒱₀ ER (Rd X W) (c : Thread nD τ) none (κ := κ (barC c))
      (wpE_semWait_eq 𝒱₀ (c : Thread nD τ) none Set.univ) (Set.mem_univ _) 1 (O := owing l c) (W := V) (R := 0) (m := 0) (T := ∅)
      ((Nat.zero_add _).trans (expect_bar X W c).symm)) $$ [Hc2 HO Ha]
  · isplitr; · iexact HI
    isplitl [Hc2]; · iexact Hc2
    isplitl [HO]; · iexact HO
    isplitr; · iapply (mayWait l c _ _ (by decide) hl); iexact Hl
    iexact Ha
  iintro ⟨HO, Ha, -, Hp⟩
  rw [wp_ret]
  imodintro
  iapply Hk
  isplitl [HO]; · iexists _; iexact HO
  isplitl [Ha]; · iexact Ha
  iapply (Entails.of_eq hrest) $$ Hp

/-! ### Filling slot 0 -/

/-- A lane's cells before anything happened. -/
def LaneP (d j : Fin 2) : sProp 𝕄 :=
  iprop(At (F := F) (sendC c d 0 j) 0 ∗ At (sendC c d 1 j) 0 ∗ At (recvC c d 1 j) 0 ∗ At (recvC c d 0 j) 0 ∗ At (freeC c d j) 0
    ∗ reached ER (sendC c d 0 j) 0 ∗ reached ER (sendC c d 1 j) 0 ∗ reached ER (recvC c d 0 j) 0 ∗ reached ER (freeC c d j) 0)
/-- What filling takes. -/
def FillIn (d j : Fin 2) : sProp 𝕄 :=
  iprop(At (F := F) (xC c (tix d j)) 0 ∗ Any c (halfM d 0 j) ∗ tok (.send 0 d j) c ∗ tok (.recv 0 d j) c ∗ Crd (.recv 0 d j) c ∗ LaneP c d j)
/-- The own rows, copied. -/
abbrev XDone (d j : Fin 2) : sProp 𝕄 :=
  iprop(At (xC c (tix d j)) 1 ∗ Own c (xtPart (tix d j)) fullShare ((xPart d j).view.read (Elt F) (X c)) ∗ XPts X c d j)

theorem fill_step (d j : Fin 2) (l : List Kind) (hl : Above 0 (.recv 0 d j :: l)) (Q : PUnit → sProp 𝕄) :
    iprop(Ctx X W κ ∗ (Crd (.x d j) c ∗ FillIn (F := F) c d j ∗ (Any (dn d c) (halfM d 1 j) ∗ reached ER (recvC (dn d c) d 1 j) 0) ∗ Owe (.recv 0 d j :: l) c) ∗
      ((Lane X c 0 d j ∗ XDone X c d j ∗ Owe l c) -∗ Q ⟨⟩))
      ⊢ run c (fill d j (dn d c)) Q := by
  have hset : ((ringM d).access (halfR 0 j)).set = (halfM d 0 j).view.set := by rw [half_set]; exact View.set_slice _ _
  have hxset : ((xtM).access (xtR (tix d j))).set = (xtPart (tix d j)).view.set := by rw [xt_set]; exact View.set_slice_whole _ _
  have hrest := rest_one X W c _ 0 _ (role_x d j) (by rfl : dutiesR (.x d j) 0 = {0})
  have hexp := expect_one X W c _ 0 _ (role_x d j) (by rfl : dutiesR (.x d j) 0 = {0})
  unfold fill FillIn LaneP
  rw [run_bind]
  iintro ⟨#Hx, ⟨Hc, ⟨Ha, Hh, HtS, HtR, HcR, HaS, HaS', HaR, HaR', HaF, #HrS, #HrS', #HrR, #HrF⟩, ⟨Hdn, #HrDn⟩, HO⟩, Hk⟩
  unfold Owe
  icases HO with ⟨%V, HO⟩
  ihave Hx2 := (Entails.of_eq (rfl : Ctx X W κ = iprop(Invs X W κ ∗ levAts (SiteBlocks.L NL) SiteBlocks.lv))) $$ Hx
  icases Hx2 with ⟨#Hi, #Hl⟩
  ihave #HI := (inv_x X W κ c d j) $$ Hi
  iapply (Rounds.wp_wait_rest_token 𝒱₀ ER (Rd X W) (c : Thread nD τ) none (κ := κ (xC c (tix d j)))
      (wpE_waitDma2_eq (src := xPart d j) (dst := xtPart (tix d j)) 𝒱₀ (c : Thread nD τ) none Set.univ) (Set.mem_univ _) 0 (O := owing (.recv 0 d j :: l) c) (W := V) (R := 0) (m := 0) (T := ∅)
      ((Nat.zero_add _).trans hexp.symm)) $$ [Hc HO Ha]
  · isplitr; · iexact HI
    isplitl [Hc]; · iexact Hc
    isplitl [HO]; · iexact HO
    isplitr; · iapply (mayWait _ c _ _ (by decide) hl); iexact Hl
    iexact Ha
  iintro ⟨HO, Ha, -, Hp⟩
  rw [wp_ret]
  imodintro
  ihave Hp2 := (Entails.of_eq hrest) $$ Hp
  unfold payR Own Any
  icases Hp2 with ⟨⟨%g, %hg, Hxt⟩, HxP⟩
  icases Hh with ⟨%f, Hh⟩
  rw [run_bind]
  iapply (wp_load_rect 𝒱₀ (c : Thread nD τ) none Set.univ (m := xtM) (r := xtR (tix d j)) (S := (xtPart (tix d j)).view.set) (f := g) (by rw [hxset])) $$ Hxt
  iintro Hxt
  rw [wp_ret]
  imodintro
  rw [run_bind]
  iapply (wp_load_rect 𝒱₀ (c : Thread nD τ) none Set.univ (m := ringM d) (r := halfR 0 j) (S := (halfM d 0 j).view.set) (f := f) (by rw [hset])) $$ Hh
  iintro Hh
  rw [wp_ret]
  imodintro
  rw [run_bind]
  iapply (wp_store 𝒱₀ (c : Thread nD τ) none Set.univ (m := ringM d) (r := halfR 0 j) (S := (halfM d 0 j).view.set) (f := f) (by rw [View.setOn_univ, hset])) $$ Hh
  iintro Hh
  rw [wp_ret]
  imodintro
  ihave Hh2 := (own_split c (halfM d 0 j) (rowsV X d j c)) $$ [Hh]
  · unfold Own
    iexists _; isplitr
    rotate_left
    · iexact Hh
    · ipureintro; exact fill_read X d j c f g hg
  icases Hh2 with ⟨HoL, HoR⟩
  iapply (send_step X W κ c 0 (by decide) d j l)
  isplitr; · iexact Hx
  isplitl [HoL Hdn HO HtS HtR]
  · isplitl [HoL]; · iexact HoL
    isplitl [Hdn]; · unfold Any; iexact Hdn
    isplitr; · iexact HrF
    isplitl [HO]; · unfold Owe; iexists _; iexact HO
    isplitl [HtS]; · iexact HtS
    isplitr; · iexact HrS
    isplitl [HtR]; · iexact HtR
    iexact HrDn
  iintro ⟨HcS, HO⟩
  iapply Hk
  isplitr [HO Ha Hxt HxP]
  · unfold Lane
    isplitl [HoR]; · iexact HoR
    isplitl [HcS]; · iexact HcS
    isplitl [HcR]; · iexact HcR
    isplitl [HaS]; · iexact HaS
    isplitl [HaS']; · iexact HaS'
    isplitl [HaR]; · iexact HaR
    isplitl [HaR']; · iexact HaR'
    isplitl [HaF]; · iexact HaF
    isplitr; · iexact HrS'
    iexact HrR
  isplitr [HO]
  · isplitl [Ha]; · iexact Ha
    isplitl [Hxt]
    · unfold Own; iexists g; isplitr; · ipureintro; exact hg
      iexact Hxt
    iexact HxP
  unfold Owe
  iexact HO

/-- The columns, copied and rounded. -/
abbrev WDone : sProp 𝕄 := iprop(At (wC c) 1 ∗ Own c wtM fullShare (W c) ∗ WPts W c)

theorem pay7_eq (f : (wbM).view.ty.Contents (Elt F)) (g : (wtM).view.ty.Contents (Elt F)) (h : (wtM).view.read (Elt F) g = W c) :
    (wbM).view.read (Elt F) (((wbM).access allR).write (Elt F) f (k0_pay7 (F := F) (((wtM).access allR).read (Elt F) g)) Finset.univ) = wbV W c := by
  have e : ∀ y : S8192x256.Idx, allR.emb y = y := fun y => funext fun a => Fin.ext (by
    match a with
    | ⟨0, _⟩ => show 0 + 1 * (y 0).val = (y 0).val; omega
    | ⟨1, _⟩ => show 0 + 1 * (y 1).val = (y 1).val; omega)
  have e2 : ((wtM).access allR).read (Elt F) g = W c := by
    funext y
    show (wtM).view.read (Elt F) g (allR.emb y) = _
    rw [e, h]
  rw [e2]
  funext y
  have := congrFun (View.read_write_univ (v := (wbM).access allR) f (k0_pay7 (F := F) (W c))) y
  have e3 : ((wbM).access allR).read (Elt F) (((wbM).access allR).write (Elt F) f (k0_pay7 (F := F) (W c)) Finset.univ) y
      = (wbM).view.read (Elt F) (((wbM).access allR).write (Elt F) f (k0_pay7 (F := F) (W c)) Finset.univ) (allR.emb y) := rfl
  rw [e] at e3
  rw [← e3, this]
  unfold k0_pay7
  exact congrFun (shapeCast_self _ _) y

theorem fillW_step (l : List Kind) (hl : Above 0 l) (Q : PUnit → sProp 𝕄) :
    iprop(Ctx X W κ ∗ (Crd .w c ∗ At (wC c) 0 ∗ Any c wbM ∗ Owe l c) ∗ ((Wb W c ∗ WDone W c ∗ Owe l c) -∗ Q ⟨⟩))
      ⊢ run c fillW Q := by
  have hrest := rest_one X W c _ 0 _ role_w (by rfl : dutiesR .w 0 = {0})
  have hexp := expect_one X W c _ 0 _ role_w (by rfl : dutiesR .w 0 = {0})
  unfold fillW Owe
  rw [run_bind]
  iintro ⟨⟨#Hi, #Hl⟩, ⟨Hc, Ha, Hh, ⟨%V, HO⟩⟩, Hk⟩
  ihave #HI := (inv_w X W κ c) $$ Hi
  iapply (Rounds.wp_wait_rest_token 𝒱₀ ER (Rd X W) (c : Thread nD τ) none (κ := κ (wC c))
      (wpE_waitDma2_eq (src := wM) (dst := wtM) 𝒱₀ (c : Thread nD τ) none Set.univ) (Set.mem_univ _) 0 (O := owing l c) (W := V) (R := 0) (m := 0) (T := ∅)
      ((Nat.zero_add _).trans hexp.symm)) $$ [Hc HO Ha]
  · isplitr; · iexact HI
    isplitl [Hc]; · iexact Hc
    isplitl [HO]; · iexact HO
    isplitr; · iapply (mayWait _ c _ _ (by decide) hl); iexact Hl
    iexact Ha
  iintro ⟨HO, Ha, -, Hp⟩
  rw [wp_ret]
  imodintro
  ihave Hp2 := (Entails.of_eq hrest) $$ Hp
  unfold payR Wb Own Any
  icases Hp2 with ⟨⟨%g, %hg, Hxt⟩, HxP⟩
  icases Hh with ⟨%f, Hh⟩
  rw [run_bind]
  iapply (wp_load_rect 𝒱₀ (c : Thread nD τ) none Set.univ (m := wtM) (r := allR) (S := (wtM).view.set) (f := g) (by rw [View.set_whole]; exact Finset.subset_univ _)) $$ Hxt
  iintro Hxt
  rw [wp_ret]
  imodintro
  rw [run_bind]
  iapply (wp_load_rect 𝒱₀ (c : Thread nD τ) none Set.univ (m := wbM) (r := allR) (S := (wbM).view.set) (f := f) (by rw [View.set_whole]; exact Finset.subset_univ _)) $$ Hh
  iintro Hh
  rw [wp_ret]
  imodintro
  iapply (wp_store 𝒱₀ (c : Thread nD τ) none Set.univ (m := wbM) (r := allR) (S := (wbM).view.set) (f := f) (by rw [View.set_whole]; exact Finset.subset_univ _)) $$ Hh
  iintro Hh
  rw [wp_ret]
  imodintro
  iapply Hk
  isplitl [Hh]
  · iexists _; isplitr
    rotate_left
    · iexact Hh
    · ipureintro; exact pay7_eq W c f g hg
  isplitr [HO]
  · isplitl [Ha]; · iexact Ha
    isplitl [Hxt]
    · unfold Own; iexists g; isplitr; · ipureintro; exact hg
      iexact Hxt
    iexact HxP
  iexists _; iexact HO

/-! ### The last step -/

/-- A lane at the end. -/
def LaneEnd (d j : Fin 2) : sProp 𝕄 :=
  iprop((Any (F := F) c (halfM d 0 j) ∗ Any c (halfM d 1 j))
    ∗ At (sendC c d 0 j) 8 ∗ At (sendC c d 1 j) 7 ∗ At (recvC c d 1 j) 8 ∗ At (recvC c d 0 j) 7 ∗ At (freeC c d j) 14)

theorem lastHalf_step (d j : Fin 2) (h : chkHalf d (dword (cur d 15 c))) (D : S8192x256.Idx → Prop) (Q : PUnit → sProp 𝕄) :
    iprop(Ctx X W κ ∗ (Lane X c 14 d j ∗ Owe [] c ∗ Wb W c ∗ OutInv X W c D) ∗
      ((LaneEnd (F := F) c d j ∗ Owe [] c ∗ Wb W c ∗ OutInv X W c (fun y => D y ∨ (y 0).val / 128 = 4 * (cur d 15 c).val + 2 * d.val + j.val)) -∗ Q ⟨⟩))
      ⊢ run c (lastHalf d j (dword (cur d 15 c)) h) Q := by
  have hset : ((ringM d).access (halfR 1 j)).set = (halfM d 1 j).view.set := by rw [half_set]; exact View.set_slice _ _
  have hnil : ∀ i, Above i [] := fun i k hk => absurd hk List.not_mem_nil
  unfold lastHalf Lane LaneEnd
  rw [run_bind]
  iintro ⟨#Hx, ⟨⟨HoR, HcS, HcR, HaS, HaS', HaR, HaR', HaF, -, -⟩, HO, Hw, Hout⟩, Hk⟩
  iapply (waitSend_step X W κ c 14 (by decide) d j _ (hnil _))
  isplitr; · iexact Hx
  isplitl [HcS HO HaS]
  · isplitl [HcS]; · iexact HcS
    isplitl [HO]; · iexact HO
    iexact HaS
  iintro ⟨HO, HaS, -, HoL⟩
  ihave Ho := (own_join c (halfM d (sl 14) j) _) $$ [HoL HoR]
  · isplitl [HoL]; · iexact HoL
    iexact HoR
  ihave Hany := (own_any c _ _) $$ Ho
  rw [run_bind]
  iapply (waitRecv_step X W κ c 14 (by decide) d j _ (hnil _))
  isplitr; · iexact Hx
  isplitl [HcR HO HaR]
  · isplitl [HcR]; · iexact HcR
    isplitl [HO]; · iexact HO
    iexact HaR
  iintro ⟨HO, HaR, -, ⟨Ho, -⟩⟩
  rw [run_bind]
  ihave Ho2 := (Entails.of_eq (show Own c (halfM d (sl (14 + 1)) j) fullShare (rowsV X d j (cur d (14 + 1) c))
      = iprop(∃ f : Buf (Elt F) ((halfM d 1 j).view.loc (c : Thread nD τ)), ⌜(halfM d 1 j).view.read (Elt F) f = rowsV X d j (cur d 15 c)⌝ ∗ (halfM d 1 j).view.loc (c : Thread nD τ) ↦[(halfM d 1 j).view.set]{fullShare} f) from rfl)) $$ Ho
  icases Ho2 with ⟨%f, %hf, Ho⟩
  iapply (wp_load_rect 𝒱₀ (c : Thread nD τ) none Set.univ (m := ringM d) (r := halfR 1 j) (S := (halfM d 1 j).view.set) (f := f) (by rw [hset])) $$ Ho
  iintro Ho
  rw [wp_ret]
  imodintro
  rw [half_read X d 1 j (cur d 15 c) f hf]
  iapply (loadW_step W c)
  isplitl [Hw]; · iexact Hw
  iintro Hw
  iapply (putHalf_step X W c d j (cur d 15 c) h rfl D)
  isplitl [Hout]; · iexact Hout
  iintro Hout
  iapply Hk
  isplitr [HO Hw Hout]
  · isplitl [Hany Ho]
    · isplitl [Hany]; · iexact Hany
      unfold Any
      iexists f; iexact Ho
    isplitl [HaS]; · iexact HaS
    isplitl [HaS']; · iexact HaS'
    isplitl [HaR]; · iexact HaR
    isplitl [HaR']; · iexact HaR'
    iexact HaF
  isplitl [HO]; · iexact HO
  isplitl [Hw]; · iexact Hw
  iexact Hout

theorem last_step (d : Fin 2) (D : S8192x256.Idx → Prop) (Q : PUnit → sProp 𝕄) :
    iprop(Ctx X W κ ∗ ((Lane X c 14 d 0 ∗ Lane X c 14 d 1) ∗ Owe [] c ∗ Wb W c ∗ Tbl (F := F) c ∗ OutInv X W c D) ∗
      (((LaneEnd (F := F) c d 0 ∗ LaneEnd c d 1) ∗ Owe [] c ∗ Wb W c ∗ Tbl (F := F) c
        ∗ OutInv X W c (fun y => (D y ∨ (y 0).val / 128 = 4 * (cur d 15 c).val + 2 * d.val + (0 : Fin 2).val) ∨ (y 0).val / 128 = 4 * (cur d 15 c).val + 2 * d.val + (1 : Fin 2).val)) -∗ Q ⟨⟩))
      ⊢ run c (last d) Q := by
  unfold last
  rw [run_bind]
  iintro ⟨#Hx, ⟨⟨L0, L1⟩, HO, Hw, Ht, Hout⟩, Hk⟩
  iapply (word_step c (oix d 14 _))
  isplitl [Ht]; · iexact Ht
  iintro Ht
  rw [tbl_oix, run_bind]
  iapply (wp_assume 𝒱₀ (c : Thread nD τ) none Set.univ (chkHalf_dword d (cur d (14 + 1) c)))
  rw [wp_ret]
  imodintro
  rw [run_bind]
  iapply (lastHalf_step X W κ c d 0 _ D)
  isplitr; · iexact Hx
  isplitl [L0 HO Hw Hout]
  · isplitl [L0]; · iexact L0
    isplitl [HO]; · iexact HO
    isplitl [Hw]; · iexact Hw
    iexact Hout
  iintro ⟨L0, HO, Hw, Hout⟩
  iapply (lastHalf_step X W κ c d 1 _ _)
  isplitr; · iexact Hx
  isplitl [L1 HO Hw Hout]
  · isplitl [L1]; · iexact L1
    isplitl [HO]; · iexact HO
    isplitl [Hw]; · iexact Hw
    iexact Hout
  iintro ⟨L1, HO, Hw, Hout⟩
  iapply Hk
  isplitl [L0 L1]
  · isplitl [L0]; · iexact L0
    iexact L1
  isplitl [HO]; · iexact HO
  isplitl [Hw]; · iexact Hw
  isplitl [Ht]; · iexact Ht
  iexact Hout

end Cert.KernelIdeal.K
-- ==== Proof.Body.lean ====
/-
  The body's run.
-/
module

public import proofs.«01_k».proof.Proof.Ends

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

variable (X : Dev nD → Vec F S512x8192 .f32) (W : Dev nD → Vec F S8192x256 .f32)
variable (κ : GSem nD τ sig → ℕ) (c : Dev nD)

/-- What starting the copy of own rows takes. -/
abbrev XIn (d j : Fin 2) : sProp 𝕄 := iprop(tok (.x d j) c ∗ Any (F := F) c (xtPart (tix d j)) ∗ XPts X c d j ∗ reached ER (xC c (tix d j)) 0)
abbrev WIn : sProp 𝕄 := iprop((tok .w c ∗ Any (F := F) c wtM ∗ WPts W c ∗ reached ER (wC c) 0) ∗ At (wC c) 0 ∗ Any c wbM)
abbrev BarRes : sProp 𝕄 := iprop((Crd (F := F) (.bar 0) c ∗ Crd (.bar 1) c) ∗ At (barC c) 0 ∗ (tok (.bar 0) c ∗ reached ER (barC (up 0 c)) 0) ∗ tok (.bar 1) c ∗ reached ER (barC (up 1 c)) 0)
/-- All a device starts with. -/
def Pre : sProp 𝕄 :=
  iprop((XIn X c 0 0 ∗ XIn X c 1 0 ∗ XIn X c 0 1 ∗ XIn X c 1 1) ∗ WIn W c ∗ BarRes (F := F) c ∗ (BarIn (F := F) c 0 ∗ BarIn c 1)
    ∗ (FillIn (F := F) c 0 0 ∗ FillIn c 1 0 ∗ FillIn c 0 1 ∗ FillIn c 1 1) ∗ hopsRes (F := F) c 14 0 ∗ Owe dueK c ∗ Tbl (F := F) c ∗ OutInv X W c (fun _ => False))
/-- All it ends with. -/
def Post : sProp 𝕄 :=
  iprop((XDone X c 0 0 ∗ XDone X c 1 0 ∗ XDone X c 0 1 ∗ XDone X c 1 1) ∗ (WDone W c ∗ Wb W c) ∗ At (barC c) 1
    ∗ ((LaneEnd (F := F) c 0 0 ∗ LaneEnd c 0 1) ∗ LaneEnd c 1 0 ∗ LaneEnd c 1 1) ∗ Owe [] c ∗ Tbl (F := F) c ∗ OutInv X W c (fun _ => True))

theorem dom_one (y : S8192x256.Idx) (h : Dom c 1 y) :
    (False ∨ (y 0).val / 256 = 2 * c.val + (0 : Fin 2).val) ∨ (y 0).val / 256 = 2 * c.val + (1 : Fin 2).val :=
  (dom_succ c 0 y h).imp_left (Or.imp_left fun ⟨_, _, h, _⟩ => absurd h (Nat.not_lt_zero _))
theorem dom_all (y : S8192x256.Idx) (_h : True) :
    ((((Dom c 15 y) ∨ (y 0).val / 128 = 4 * (cur 0 15 c).val + 2 * (0 : Fin 2).val + (0 : Fin 2).val) ∨ (y 0).val / 128 = 4 * (cur 0 15 c).val + 2 * (0 : Fin 2).val + (1 : Fin 2).val)
      ∨ (y 0).val / 128 = 4 * (cur 1 15 c).val + 2 * (1 : Fin 2).val + (0 : Fin 2).val) ∨ (y 0).val / 128 = 4 * (cur 1 15 c).val + 2 * (1 : Fin 2).val + (1 : Fin 2).val := by
  have hy : (y 0).val < 8192 := (y 0).isLt
  have hc : ∀ (d : Fin 2), d.val = (y 0).val / 256 % 2 → ∃ n : Fin 16, (y 0).val / 256 = 2 * (cur d n.val c).val + d.val := by
    intro d hd
    obtain ⟨n, hn⟩ := cur_cover d c ⟨(y 0).val / 512, by show _ < 16; omega⟩
    refine ⟨n, ?_⟩
    rw [hn]
    show (y 0).val / 256 = 2 * ((y 0).val / 512) + d.val
    omega
  have hfin : ∀ (d : Fin 2) (n : Fin 16), (y 0).val / 256 = 2 * (cur d n.val c).val + d.val → n.val < 15 ∨ (y 0).val / 256 = 2 * (cur d 15 c).val + d.val := by
    intro d n h
    rcases Nat.lt_or_ge n.val 15 with h1 | h1
    · exact .inl h1
    · right
      have : n.val = 15 := by omega
      rw [this] at h
      exact h
  rcases Nat.mod_two_eq_zero_or_one ((y 0).val / 256) with h0 | h1
  · obtain ⟨n, hn⟩ := hc 0 h0.symm
    rcases hfin 0 n hn with h | h
    · exact .inl (.inl (.inl (.inl ⟨0, n.val, h, hn⟩)))
    · have h' : (y 0).val / 256 = 2 * (cur 0 15 c).val + 0 := h
      rcases Nat.mod_two_eq_zero_or_one ((y 0).val / 128) with h2 | h2
      · refine .inl (.inl (.inl (.inr ?_))); show _ = 4 * (cur 0 15 c).val + 2 * 0 + 0; omega
      · refine .inl (.inl (.inr ?_)); show _ = 4 * (cur 0 15 c).val + 2 * 0 + 1; omega
  · obtain ⟨n, hn⟩ := hc 1 h1.symm
    rcases hfin 1 n hn with h | h
    · exact .inl (.inl (.inl (.inl ⟨1, n.val, h, hn⟩)))
    · have h' : (y 0).val / 256 = 2 * (cur 1 15 c).val + 1 := h
      rcases Nat.mod_two_eq_zero_or_one ((y 0).val / 128) with h2 | h2
      · refine .inl (.inr ?_); show _ = 4 * (cur 1 15 c).val + 2 * 1 + 0; omega
      · refine .inr ?_; show _ = 4 * (cur 1 15 c).val + 2 * 1 + 1; omega

theorem above_hop0 (i : ℕ) (hi : i < 10) : Above i (restK 14 0) := above_rest 14 0 (by decide) i (by omega)

/-- The opening: up to the filled slots. -/
theorem word_dev (i : Fin 33) (o : Dev nD) (ho : tblD c i.val = o) (Q : BitVec 32 → sProp 𝕄) :
    iprop(Tbl (F := F) c ∗ (Tbl (F := F) c -∗ Q (dword o))) ⊢ run c (word i) Q := by
  rw [← ho]; exact word_step c i Q

theorem assume_step {α : Type} {P : Prop} (dec : Decidable P) (h : P) (k : PLift P → KProg F α) (Q : α → sProp 𝕄) :
    run c (k ⟨h⟩) Q ⊢ run c (Prog.lift (.assume P dec) >>= k) Q := by
  rw [run_bind]
  iintro H
  iapply (wp_assume 𝒱₀ (c : Thread nD τ) none Set.univ h)
  rw [wp_ret]
  imodintro
  iexact H

theorem body_run (Q : PUnit → sProp 𝕄) : iprop(Ctx X W κ ∗ Pre X W c ∗ (Post X W c -∗ Q ⟨⟩)) ⊢ run c body Q := by
  have ha := above_hop0
  have h11 : Above 0 (.recv 0 1 1 :: restK 14 0) := above_cons _ _ _ (by decide) (by decide) (ha 0 (by decide))
  have h01 : Above 0 (.recv 0 0 1 :: .recv 0 1 1 :: restK 14 0) := above_cons _ _ _ (by decide) (by decide) h11
  have h10 : Above 0 (.recv 0 1 0 :: .recv 0 0 1 :: .recv 0 1 1 :: restK 14 0) := above_cons _ _ _ (by decide) (by decide) h01
  have h00 : Above 0 (.recv 0 0 0 :: .recv 0 1 0 :: .recv 0 0 1 :: .recv 0 1 1 :: restK 14 0) := above_cons _ _ _ (by decide) (by decide) h10
  have hb : Above 1 (.recv 0 0 0 :: .recv 0 1 0 :: .recv 0 0 1 :: .recv 0 1 1 :: restK 14 0) :=
    above_cons _ _ _ (by decide) (by decide) (above_cons _ _ _ (by decide) (by decide) (above_cons _ _ _ (by decide) (by decide) (above_cons _ _ _ (by decide) (by decide) (ha 1 (by decide)))))
  unfold body Pre Post
  rw [run_bind]
  iintro ⟨#Hx, ⟨⟨X00, X10, X01, X11⟩, ⟨HW, HaW, HwB⟩, ⟨HcB, HaB, ⟨HtB0, HrB0⟩, HtB1, HrB1⟩, ⟨B0, B1⟩, ⟨F00, F10, F01, F11⟩, HR, HO, Ht, Hout⟩, Hk⟩
  iapply (word_dev c 0 c rfl)
  isplitl [Ht]; · iexact Ht
  iintro Ht
  iapply (assume_step c _ (chk3_dword c))
  rw [run_bind]
  iapply (word_dev c 1 (nxt c) rfl)
  isplitl [Ht]; · iexact Ht
  iintro Ht
  iapply (assume_step c _ (chk2_dword (nxt c)))
  rw [run_bind]
  iapply (word_dev c 2 (prv c) rfl)
  isplitl [Ht]; · iexact Ht
  iintro Ht
  iapply (assume_step c _ (chk1_dword (prv c)))
  dsimp only
  rw [right_dword, left_dword, run_bind]
  iapply (copyX_step X W κ c 0 0)
  isplitr; · iexact Hx
  isplitl [X00]; · iexact X00
  iintro X00
  rw [run_bind]
  iapply (copyX_step X W κ c 1 0)
  isplitr; · iexact Hx
  isplitl [X10]; · iexact X10
  iintro X10
  rw [run_bind]
  iapply (copyX_step X W κ c 0 1)
  isplitr; · iexact Hx
  isplitl [X01]; · iexact X01
  iintro X01
  rw [run_bind]
  iapply (copyX_step X W κ c 1 1)
  isplitr; · iexact Hx
  isplitl [X11]; · iexact X11
  iintro X11
  rw [run_bind]
  iapply (copyW_step X W κ c)
  isplitr; · iexact Hx
  isplitl [HW]; · iexact HW
  iintro HcW
  unfold dueK
  rw [run_bind]
  iapply (sigBar_step X W κ c 0 _)
  isplitr; · iexact Hx
  isplitl [HtB0 HO B0 HrB0]
  · isplitl [HtB0]; · iexact HtB0
    isplitl [HO]; · iexact HO
    isplitl [B0]; · iexact B0
    iexact HrB0
  iintro HO
  rw [run_bind]
  iapply (sigBar_step X W κ c 1 _)
  isplitr; · iexact Hx
  isplitl [HtB1 HO B1 HrB1]
  · isplitl [HtB1]; · iexact HtB1
    isplitl [HO]; · iexact HO
    isplitl [B1]; · iexact B1
    iexact HrB1
  iintro HO
  rw [run_bind]
  iapply (waitBar_step X W κ c _ hb)
  isplitr; · iexact Hx
  isplitl [HcB HO HaB]
  · isplitl [HcB]; · iexact HcB
    isplitl [HO]; · iexact HO
    iexact HaB
  iintro ⟨HO, HaB, ⟨D00, D01⟩, ⟨D10, D11⟩⟩
  rw [run_bind]
  iapply (fill_step X W κ c 0 0 _ h00)
  isplitr; · iexact Hx
  isplitl [X00 F00 D00 HO]
  · isplitl [X00]; · iexact X00
    isplitl [F00]; · iexact F00
    isplitl [D00]; · iexact D00
    iexact HO
  iintro ⟨L00, X00, HO⟩
  rw [run_bind]
  iapply (fill_step X W κ c 1 0 _ h10)
  isplitr; · iexact Hx
  isplitl [X10 F10 D10 HO]
  · isplitl [X10]; · iexact X10
    isplitl [F10]; · iexact F10
    isplitl [D10]; · iexact D10
    iexact HO
  iintro ⟨L10, X10, HO⟩
  rw [run_bind]
  iapply (fill_step X W κ c 0 1 _ h01)
  isplitr; · iexact Hx
  isplitl [X01 F01 D01 HO]
  · isplitl [X01]; · iexact X01
    isplitl [F01]; · iexact F01
    isplitl [D01]; · iexact D01
    iexact HO
  iintro ⟨L01, X01, HO⟩
  rw [run_bind]
  iapply (fill_step X W κ c 1 1 _ h11)
  isplitr; · iexact Hx
  isplitl [X11 F11 D11 HO]
  · isplitl [X11]; · iexact X11
    isplitl [F11]; · iexact F11
    isplitl [D11]; · iexact D11
    iexact HO
  iintro ⟨L11, X11, HO⟩
  rw [run_bind]
  iapply (fillW_step X W κ c _ (ha 0 (by decide)))
  isplitr; · iexact Hx
  isplitl [HcW HaW HwB HO]
  · isplitl [HcW]; · iexact HcW
    isplitl [HaW]; · iexact HaW
    isplitl [HwB]; · iexact HwB
    iexact HO
  iintro ⟨Hw, HWd, HO⟩
  rw [run_bind]
  ihave L00 := (Entails.of_eq (lane_eq X c 0 0 0)) $$ L00
  icases L00 with ⟨O00, L00⟩
  ihave L01 := (Entails.of_eq (lane_eq X c 0 0 1)) $$ L01
  icases L01 with ⟨O01, L01⟩
  ihave L10 := (Entails.of_eq (lane_eq X c 0 1 0)) $$ L10
  icases L10 with ⟨O10, L10⟩
  ihave L11 := (Entails.of_eq (lane_eq X c 0 1 1)) $$ L11
  icases L11 with ⟨O11, L11⟩
  iapply (dot_step X W c 0 0 fullShare.right c)
  isplitl [O00 O01]
  · isplitl [O00]; · iexact O00
    iexact O01
  isplitl [Hw]; · iexact Hw
  iintro ⟨⟨O00, O01⟩, Hw⟩
  rw [run_bind]
  iapply (putRows_step X W c 0 c _ (cur_ne_last 0 c 0) _)
  isplitl [Hout]; · iexact Hout
  iintro Hout
  rw [run_bind]
  iapply (dot_step X W c 0 1 fullShare.right c)
  isplitl [O10 O11]
  · isplitl [O10]; · iexact O10
    iexact O11
  isplitl [Hw]; · iexact Hw
  iintro ⟨⟨O10, O11⟩, Hw⟩
  rw [run_bind]
  iapply (putRows_step X W c 1 c _ (cur_ne_last 1 c 0) _)
  isplitl [Hout]; · iexact Hout
  iintro Hout
  ihave Hout1 := (out_mono X W c (dom_one c)) $$ Hout
  rw [run_bind]
  iapply (hops_step X W κ c 14 0 (by decide))
  isplitr; · iexact Hx
  isplitl [O00 O01 O10 O11 L00 L01 L10 L11 HR HO Hw Ht Hout1]
  · isplitl [O00 O01 O10 O11 L00 L01 L10 L11]
    · isplitl [O00 O01 L00 L01]
      · isplitl [O00 L00]
        · iapply (Entails.of_eq (lane_eq X c 0 0 0).symm)
          isplitl [O00]; · iexact O00
          iexact L00
        iapply (Entails.of_eq (lane_eq X c 0 0 1).symm)
        isplitl [O01]; · iexact O01
        iexact L01
      isplitl [O10 L10]
      · iapply (Entails.of_eq (lane_eq X c 0 1 0).symm)
        isplitl [O10]; · iexact O10
        iexact L10
      iapply (Entails.of_eq (lane_eq X c 0 1 1).symm)
      isplitl [O11]; · iexact O11
      iexact L11
    isplitl [HR]; · iexact HR
    isplitl [HO]; · iexact HO
    isplitl [Hw]; · iexact Hw
    isplitl [Ht]; · iexact Ht
    iexact Hout1
  rw [show 0 + 14 = 14 from rfl]
  iintro ⟨⟨⟨L00, L01⟩, L10, L11⟩, HO, Hw, Ht, Hout⟩
  rw [run_bind]
  iapply (last_step X W κ c 0 _)
  isplitr; · iexact Hx
  isplitl [L00 L01 HO Hw Ht Hout]
  · isplitl [L00 L01]
    · isplitl [L00]; · iexact L00
      iexact L01
    isplitl [HO]; · iexact HO
    isplitl [Hw]; · iexact Hw
    isplitl [Ht]; · iexact Ht
    iexact Hout
  iintro ⟨L0, HO, Hw, Ht, Hout⟩
  iapply (last_step X W κ c 1 _)
  isplitr; · iexact Hx
  isplitl [L10 L11 HO Hw Ht Hout]
  · isplitl [L10 L11]
    · isplitl [L10]; · iexact L10
      iexact L11
    isplitl [HO]; · iexact HO
    isplitl [Hw]; · iexact Hw
    isplitl [Ht]; · iexact Ht
    iexact Hout
  iintro ⟨L1, HO, Hw, Ht, Hout⟩
  iapply Hk
  isplitl [X00 X10 X01 X11]
  · isplitl [X00]; · iexact X00
    isplitl [X10]; · iexact X10
    isplitl [X01]; · iexact X01
    iexact X11
  isplitl [HWd Hw]
  · isplitl [HWd]; · iexact HWd
    iexact Hw
  isplitl [HaB]; · iexact HaB
  isplitl [L0 L1]
  · isplitl [L0]; · iexact L0
    iexact L1
  isplitl [HO]; · iexact HO
  isplitl [Ht]; · iexact Ht
  iapply (out_mono X W c (dom_all c)) $$ Hout

end Cert.KernelIdeal.K
-- ==== Proof.Deal.lean ====
/-
  What a device is dealt at the launch.
-/
module

public import proofs.«01_k».proof.Proof.Body
public import Idealize.ShloMosaic.Lib.Pipeline.BigSepL

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

/-! ### Rights and credits -/

section Deal

variable (c : Dev nD)

theorem owing_sum (l : List Kind) : (∑ d : Dev nD, owing l d) = ∑ d : Dev nD, (tallyL (l.map (crd · d)) : CellTallies nD τ sig ℕ) := by
  induction l with
  | nil => rfl
  | cons k l ih =>
    show (∑ d : Dev nD, ((pay k d).tally + owing l d)) = ∑ d : Dev nD, ((crd k d).tally + tallyL (l.map (crd · d)))
    rw [Finset.sum_add_distrib, Finset.sum_add_distrib, ih]
    exact congrArg (· + _) (Equiv.sum_comp (tgt k) (fun d : Dev nD => ((crd k d).tally : CellTallies nD τ sig ℕ)))

theorem launch_creds : (Pipeline.launchCred (fun d => owing dueK d) c : sProp 𝕄) = bigSepL dueK (fun k => Crd (F := F) k c) := by
  rw [Pipeline.launchCred_of_sum _ (fun d => tallyL (dueK.map (crd · d))) (owing_sum dueK) (fun d g hg => by
      obtain ⟨i, hi⟩ := DFunLike.ne_iff.mp hg
      obtain ⟨x, hx, rfl, -⟩ := TalkSites.tallyL_pos (Nat.pos_of_ne_zero hi)
      obtain ⟨k, -, rfl⟩ := List.mem_map.mp hx
      rfl) c, TalkSites.cred_tallyL, bigSepL_map]

theorem toks_list : (bigSep (toks c) fun x => (dutyTok ER x.1 x.2.1 x.2.2 : sProp 𝕄)) = bigSepL allK (fun k => tok k c) := by
  unfold toks
  rw [BI.bigSep_image_of_injOn (fun k hk k' hk' e => tokOf_inj c (all_ok k (List.mem_toFinset.mp hk)) (all_ok k' (List.mem_toFinset.mp hk')) e),
    bigSep_eq_bigSepL _ all_nodup]
  rfl

theorem hops_deal (n t : ℕ) :
    iprop(bigSepL (restK n t) (fun k => tok (F := F) k c) ∗ bigSepL (restS n t) (fun k => tok (F := F) k c) ∗ bigSepL (restK n t) (fun k => Crd (F := F) k c)) ⊢ hopsRes (F := F) c n t := by
  induction n generalizing t with
  | zero => iintro -; unfold hopsRes; iempintro
  | succ n ih =>
    unfold restK restS hopK hopS hopsRes hopRes laneRes
    simp only [bigSepL_cons']
    iintro ⟨⟨tf00, tr00, tf01, tr01, tf10, tr10, tf11, tr11, HT⟩, ⟨s00, s01, s10, s11, HS⟩, cf00, cr00, cf01, cr01, cf10, cr10, cf11, cr11, HC⟩
    isplitr [HT HS HC]
    · isplitl [tf00 cf00 tr00 cr00 s00 tf01 cf01 tr01 cr01 s01]
      · isplitl [tf00 cf00 tr00 cr00 s00]
        · isplitl [tf00]; · iexact tf00
          isplitl [cf00]; · iexact cf00
          isplitl [tr00]; · iexact tr00
          isplitl [cr00]; · iexact cr00
          iexact s00
        isplitl [tf01]; · iexact tf01
        isplitl [cf01]; · iexact cf01
        isplitl [tr01]; · iexact tr01
        isplitl [cr01]; · iexact cr01
        iexact s01
      isplitl [tf10 cf10 tr10 cr10 s10]
      · isplitl [tf10]; · iexact tf10
        isplitl [cf10]; · iexact cf10
        isplitl [tr10]; · iexact tr10
        isplitl [cr10]; · iexact cr10
        iexact s10
      isplitl [tf11]; · iexact tf11
      isplitl [cf11]; · iexact cf11
      isplitl [tr11]; · iexact tr11
      isplitl [cr11]; · iexact cr11
      iexact s11
    iapply (ih (t + 1))
    isplitl [HT]; · iexact HT
    isplitl [HS]; · iexact HS
    iexact HC

abbrev FillTok (d j : Fin 2) : sProp 𝕄 := iprop(tok (.send 0 d j) c ∗ tok (.recv 0 d j) c ∗ Crd (F := F) (.recv 0 d j) c)
/-- The rights and credits of a device, by the part of the program that uses them. -/
def Dealt : sProp 𝕄 :=
  iprop((tok (.x 0 0) c ∗ tok (.x 1 0) c ∗ tok (.x 0 1) c ∗ tok (.x 1 1) c) ∗ tok .w c
    ∗ ((Crd (F := F) (.bar 0) c ∗ Crd (.bar 1) c) ∗ tok (.bar 0) c ∗ tok (.bar 1) c)
    ∗ (FillTok (F := F) c 0 0 ∗ FillTok c 1 0 ∗ FillTok c 0 1 ∗ FillTok c 1 1) ∗ hopsRes (F := F) c 14 0)

theorem deal : iprop((bigSep (toks c) fun x => dutyTok ER x.1 x.2.1 x.2.2) ∗ Pipeline.launchCred (fun d => owing dueK d) c) ⊢ Dealt (F := F) c := by
  rw [toks_list, launch_creds]
  unfold allK
  rw [bigSepL_append]
  unfold dueK ownK Dealt
  simp only [bigSepL_cons']
  iintro ⟨⟨⟨b0, b1, r00, r10, r01, r11, HT⟩, x00, x10, x01, x11, w, s00, s10, s01, s11, HS⟩, cb0, cb1, c00, c10, c01, c11, HC⟩
  isplitl [x00 x10 x01 x11]
  · isplitl [x00]; · iexact x00
    isplitl [x10]; · iexact x10
    isplitl [x01]; · iexact x01
    iexact x11
  isplitl [w]; · iexact w
  isplitl [b0 b1 cb0 cb1]
  · isplitl [cb0 cb1]
    · isplitl [cb0]; · iexact cb0
      iexact cb1
    isplitl [b0]; · iexact b0
    iexact b1
  isplitr [HT HS HC]
  · isplitl [s00 r00 c00]
    · isplitl [s00]; · iexact s00
      isplitl [r00]; · iexact r00
      iexact c00
    isplitl [s10 r10 c10]
    · isplitl [s10]; · iexact s10
      isplitl [r10]; · iexact r10
      iexact c10
    isplitl [s01 r01 c01]
    · isplitl [s01]; · iexact s01
      isplitl [r01]; · iexact r01
      iexact c01
    isplitl [s11]; · iexact s11
    isplitl [r11]; · iexact r11
    iexact c11
  iapply (hops_deal c 14 0)
  isplitl [HT]; · iexact HT
  isplitl [HS]; · iexact HS
  iexact HC

end Deal

/-! ### Opening and closing the cells -/

/-- A device's own cells of the kernel, lane by lane. -/
abbrev KK : Type := Option ((Fin 2 × Fin 2) × Fin 6)
def osem : KK → SemLoc sig
  | none => .dma wS
  | some ((d, j), i) => ![SemLoc.dma (sendS d 0 j), .dma (sendS d 1 j), .dma (recvS d 1 j), .dma (recvS d 0 j), .reg (freeS d j), .dma (xS (tix d j))] i
/-- The round each ends at. -/
def lastR : KK → ℕ
  | none => 1
  | some (_, i) => ![8, 7, 8, 7, 14, 1] i
def osemR : KK → Role
  | none => .w
  | some ((d, j), i) => ![Role.send d 0 j, .send d 1 j, .recv d 1 j, .recv d 0 j, .free d j, .x d j] i
theorem osem_role : ∀ k : KK, roleOf (osem k) = osemR k := by decide +kernel
theorem osem_inj : Function.Injective osem := by
  intro a b h
  have h' : osemR a = osemR b := by rw [← osem_role, ← osem_role, h]
  revert a b
  exact fun a b _ h' => (by decide +kernel : ∀ a b : KK, osemR a = osemR b → a = b) a b h'
theorem osem_dorm : ∀ sm : SemLoc sig, (roleOf sm ≠ .bar ∧ roleOf sm ≠ .none) ↔ ∃ k, osem k = sm := by decide +kernel
theorem dorm_eq : dormS = Finset.univ.image osem := Finset.ext fun sm => by
  rw [mem_dormS_iff, osem_dorm, Finset.mem_image]
  exact ⟨fun ⟨k, h⟩ => ⟨k, Finset.mem_univ _, h⟩, fun ⟨k, _, h⟩ => ⟨k, h⟩⟩

/-- A lane's six cells. -/
abbrev lane6 {M : Type} [URA M] (Φ : KK → sProp M) (d j : Fin 2) : sProp M :=
  iprop(Φ (some ((d, j), 0)) ∗ Φ (some ((d, j), 1)) ∗ Φ (some ((d, j), 2)) ∗ Φ (some ((d, j), 3)) ∗ Φ (some ((d, j), 4)) ∗ Φ (some ((d, j), 5)))
theorem cells_split {M : Type} [URA M] (Φ : KK → sProp M) :
    bigSep Finset.univ Φ = iprop(Φ none ∗ ((lane6 Φ 0 0 ∗ lane6 Φ 0 1) ∗ lane6 Φ 1 0 ∗ lane6 Φ 1 1)) := by
  have h : (Finset.univ : Finset KK).erase none = Finset.univ.map ⟨some, Option.some_injective _⟩ := by decide
  rw [BI.bigSep_univ_at Φ none, h, BI.bigSep_map, BI.bigSep_univ_prod, BI.bigSep_univ_prod, BI.bigSep_fin_two, BI.bigSep_fin_two, BI.bigSep_fin_two]
  have h6 (Ψ : Fin 6 → sProp M) : bigSep Finset.univ Ψ = iprop(Ψ 0 ∗ Ψ 1 ∗ Ψ 2 ∗ Ψ 3 ∗ Ψ 4 ∗ Ψ 5) :=
    bigSep_univ_eq_bigSepL [0, 1, 2, 3, 4, 5] (by decide) (by decide) Ψ
  rw [h6, h6, h6, h6]
  rfl

section Cells

variable (X : Dev nD → Vec F S512x8192 .f32) (W : Dev nD → Vec F S8192x256 .f32)
variable (κ : GSem nD τ sig → ℕ) (c : Dev nD)

theorem inv_osem (k : KK) : Invs X W κ ⊢ cellInv ER (Rd X W) (κ ((c : Thread nD τ), osem k)) ((c : Thread nD τ), osem k) :=
  fam.cellInvs_dorm ER (Rd X W) κ c (j := 0) ((mem_dormS_iff _).mpr ((osem_dorm _).mpr ⟨k, rfl⟩))

theorem open_cells : iprop(Invs X W κ ∗ (bigSep dormS fun sm => openTok (ER (F := F)) ((c : Thread nD τ), sm)) ∗ Pipeline.ownSems0 osem c)
    ⊢ |={Set.univ}=> bigSep Finset.univ fun k : KK => iprop(At (F := F) ((c : Thread nD τ), osem k) 0 ∗ reached ER ((c : Thread nD τ), osem k) 0) := by
  rw [dorm_eq, BI.bigSep_image_of_injOn (fun a _ b _ h => osem_inj h)]
  unfold Pipeline.ownSems0
  iintro ⟨#HI, Ho, Hs⟩
  iapply (cells_open ER (Rd X W) Finset.univ (fun k : KK => ((c : Thread nD τ), osem k)) (fun k => κ ((c : Thread nD τ), osem k)) (fun _ _ => Set.mem_univ _))
  isplitl [Ho]
  · iapply (bigSep_with_persistent (R := Invs X W κ) (Φ := fun k : KK => openTok (ER (F := F)) ((c : Thread nD τ), osem k)) (fun k _ => sep_mono_left (inv_osem X W κ c k)))
    isplitr; · iexact HI
    iexact Ho
  iexact Hs

theorem last_none (k : KK) (r : ℕ) (h : lastR k ≤ r) : (Rd X W).duties ((c : Thread nD τ), osem k) r = ∅ := by
  rw [duties_eq, osem_role]
  match k, h with
  | none, h => exact if_neg (by have : 1 ≤ r := h; omega)
  | some ((d, j), 0), h => exact if_neg (by have : 8 ≤ r := h; show ¬ (2 * r + 0 < 15); omega)
  | some ((d, j), 1), h => exact if_neg (by have : 7 ≤ r := h; show ¬ (2 * r + 1 < 15); omega)
  | some ((d, j), 2), h => exact if_neg (by have : 8 ≤ r := h; show ¬ (2 * r + 1 - 1 < 15); omega)
  | some ((d, j), 3), h => exact if_neg (by have : 7 ≤ r := h; show ¬ (2 * r + 1 - 0 < 15); omega)
  | some ((d, j), 4), h => exact if_neg (by have : 14 ≤ r := h; omega)
  | some ((d, j), 5), h => exact if_neg (by have : 1 ≤ r := h; omega)

theorem close_cells : iprop(Invs X W κ ∗ bigSep Finset.univ fun k : KK => At (F := F) ((c : Thread nD τ), osem k) (lastR k))
    ⊢ |={Set.univ}=> (Pipeline.ownSems0 osem c : sProp 𝕄) := by
  unfold Pipeline.ownSems0
  iintro ⟨#HI, Ha⟩
  iapply (cells_close ER (Rd X W) Finset.univ (fun k : KK => ((c : Thread nD τ), osem k)) (fun k => κ ((c : Thread nD τ), osem k)) (fun _ _ => Set.mem_univ _)
    (fun _ _ h => h) lastR (fun k _ r h => last_none X W c k r h))
  iapply (bigSep_with_persistent (R := Invs X W κ) (Φ := fun k : KK => At (F := F) ((c : Thread nD τ), osem k) (lastR k)) (fun k _ => sep_mono_left (inv_osem X W κ c k)))
  isplitr; · iexact HI
  iexact Ha

end Cells

end Cert.KernelIdeal.K
-- ==== Proof.Pieces.lean ====
/-
  The buffers of a device in pieces.
-/
module

public import proofs.«01_k».proof.Proof.Deal

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

/-! ### The buffers in pieces -/

section Mem

variable (c : Dev nD)

abbrev Whole (b : Ref sig .tc) : sProp 𝕄 := iprop(∃ f : Buf (Elt F) ((c : Thread nD τ).loc b), ((c : Thread nD τ).loc b) ↦{fullShare} f)

theorem four {M : Type} [URA M] (Φ : Fin 2 × Fin 2 → sProp M) :
    bigSep Finset.univ Φ = iprop((Φ (0, 0) ∗ Φ (0, 1)) ∗ Φ (1, 0) ∗ Φ (1, 1)) := by
  rw [BI.bigSep_univ_prod, BI.bigSep_fin_two, BI.bigSep_fin_two, BI.bigSep_fin_two]; rfl

theorem any_four (ℓ : Loc nD τ sig) (K : Fin 2 × Fin 2 → Finset (Idx ℓ)) (h : ∀ p p', p ≠ p' → Disjoint (K p) (K p')) (hu : Finset.univ.biUnion K = Finset.univ) :
    (iprop(∃ f : Buf (Elt F) ℓ, ℓ ↦{fullShare} f) : sProp 𝕄)
      ⊢ iprop(((∃ f : Buf (Elt F) ℓ, ℓ ↦[K (0, 0)]{fullShare} f) ∗ (∃ f : Buf (Elt F) ℓ, ℓ ↦[K (0, 1)]{fullShare} f))
        ∗ (∃ f : Buf (Elt F) ℓ, ℓ ↦[K (1, 0)]{fullShare} f) ∗ (∃ f : Buf (Elt F) ℓ, ℓ ↦[K (1, 1)]{fullShare} f)) := by
  iintro ⟨%f, H⟩
  ihave H' := (Entails.of_eq (show (ℓ ↦{fullShare} f : sProp 𝕄) = _ from by rw [← hu, pointsTo_biUnion _ K fun p _ p' _ hne => h p p' hne, four])) $$ H
  icases H' with ⟨⟨H1, H2⟩, H3, H4⟩
  isplitl [H1 H2]
  · isplitl [H1]; · iexists f; iexact H1
    iexists f; iexact H2
  isplitl [H3]; · iexists f; iexact H3
  iexists f; iexact H4

theorem four_any (ℓ : Loc nD τ sig) (K : Fin 2 × Fin 2 → Finset (Idx ℓ)) (h : ∀ p p', p ≠ p' → Disjoint (K p) (K p')) (hu : Finset.univ.biUnion K = Finset.univ) :
    iprop(((∃ f : Buf (Elt F) ℓ, ℓ ↦[K (0, 0)]{fullShare} f) ∗ (∃ f : Buf (Elt F) ℓ, ℓ ↦[K (0, 1)]{fullShare} f))
        ∗ (∃ f : Buf (Elt F) ℓ, ℓ ↦[K (1, 0)]{fullShare} f) ∗ (∃ f : Buf (Elt F) ℓ, ℓ ↦[K (1, 1)]{fullShare} f))
      ⊢ (iprop(∃ f : Buf (Elt F) ℓ, ℓ ↦{fullShare} f) : sProp 𝕄) := by
  iintro ⟨⟨⟨%f1, H1⟩, ⟨%f2, H2⟩⟩, ⟨%f3, H3⟩, ⟨%f4, H4⟩⟩
  ihave H := (show _ ⊢ _ from pointsTo_biUnion_join (q := fullShare) Finset.univ K (fun p => if p = (0, 0) then f1 else if p = (0, 1) then f2 else if p = (1, 0) then f3 else f4) f1 fun p _ p' _ hne => h p p' hne) $$ [H1 H2 H3 H4]
  · rw [four]
    isplitl [H1 H2]
    · isplitl [H1]; · iexact H1
      iexact H2
    isplitl [H3]; · iexact H3
    iexact H4
  icases H with ⟨%g, -, H⟩
  rw [hu]
  iexists g; iexact H

theorem ring_split (d : Fin 2) : (iprop(∃ f : Buf (Elt F) ((ringM d).view.loc (c : Thread nD τ)), (ringM d).view.loc (c : Thread nD τ) ↦{fullShare} f) : sProp 𝕄)
    ⊢ iprop((Any (F := F) c (halfM d 0 0) ∗ Any c (halfM d 0 1)) ∗ Any c (halfM d 1 0) ∗ Any c (halfM d 1 1)) :=
  any_four ((ringM d).view.loc (c : Thread nD τ)) (fun p => (halfM d p.1 p.2).view.set) (fun p p' h => half_disjoint d h) ((ring_set d).trans (ring_set_univ d))
theorem ring_join (d : Fin 2) : iprop((Any (F := F) c (halfM d 0 0) ∗ Any c (halfM d 0 1)) ∗ Any c (halfM d 1 0) ∗ Any c (halfM d 1 1))
    ⊢ (iprop(∃ f : Buf (Elt F) ((ringM d).view.loc (c : Thread nD τ)), (ringM d).view.loc (c : Thread nD τ) ↦{fullShare} f) : sProp 𝕄) :=
  four_any ((ringM d).view.loc (c : Thread nD τ)) (fun p => (halfM d p.1 p.2).view.set) (fun p p' h => half_disjoint d h) ((ring_set d).trans (ring_set_univ d))
theorem xt_split : Whole (F := F) c cc0_scratch3
    ⊢ iprop((Any (F := F) c (xtPart (tix 0 0)) ∗ Any c (xtPart (tix 0 1))) ∗ Any c (xtPart (tix 1 0)) ∗ Any c (xtPart (tix 1 1))) :=
  any_four ((c : Thread nD τ).loc cc0_scratch3) (fun p => (xtPart (tix p.1 p.2)).view.set) (fun p p' h => xt_disjoint h) xt_union
theorem xt_join : iprop((Any (F := F) c (xtPart (tix 0 0)) ∗ Any c (xtPart (tix 0 1))) ∗ Any c (xtPart (tix 1 0)) ∗ Any c (xtPart (tix 1 1)))
    ⊢ Whole (F := F) c cc0_scratch3 :=
  four_any ((c : Thread nD τ).loc cc0_scratch3) (fun p => (xtPart (tix p.1 p.2)).view.set) (fun p p' h => xt_disjoint h) xt_union

variable (X : Dev nD → Vec F S512x8192 .f32) (W : Dev nD → Vec F S8192x256 .f32)

theorem x_eq : (((c : Thread nD τ).loc main_arg0) ↦{fullShare} (X c : Buf (Elt F) ((c : Thread nD τ).loc main_arg0)) : sProp 𝕄)
    = iprop((XPts X c 0 0 ∗ XPts X c 0 1) ∗ XPts X c 1 0 ∗ XPts X c 1 1) := by
  have e : (((c : Thread nD τ).loc main_arg0) ↦{fullShare} (X c : Buf (Elt F) ((c : Thread nD τ).loc main_arg0)) : sProp 𝕄)
      = ((c : Thread nD τ).loc main_arg0) ↦[Finset.biUnion (β := S512x8192.Idx) (Finset.univ : Finset (Fin 2 × Fin 2)) (fun p => (xPart p.1 p.2).view.set)]{fullShare} (X c : Buf (Elt F) ((c : Thread nD τ).loc main_arg0)) := by
    rw [x_union]
  rw [e]
  refine (pointsTo_biUnion (ℓ := (c : Thread nD τ).loc main_arg0) (q := fullShare) (f := (X c : Buf (Elt F) ((c : Thread nD τ).loc main_arg0))) Finset.univ (fun p : Fin 2 × Fin 2 => (xPart p.1 p.2).view.set) (fun p _ p' _ hne => x_disjoint hne)).trans ?_
  rw [four]
theorem w_eq : (((c : Thread nD τ).loc main_arg1) ↦{fullShare} (W c : Buf (Elt F) ((c : Thread nD τ).loc main_arg1)) : sProp 𝕄) = WPts W c := by
  show _ = ((c : Thread nD τ).loc main_arg1) ↦[(wM).view.set]{fullShare} (W c)
  rw [View.set_whole]
theorem whole_any {sp : Space} (b : Ref sig .tc) (hs : (Memref.whole b).view.set = Finset.univ) : Whole (F := F) c b = Any c (Memref.whole b) := by
  unfold Any; rw [hs]

/-- Every cell of a device at round 0. -/
abbrev Opened : sProp 𝕄 := bigSep Finset.univ fun k : KK => iprop(At (F := F) ((c : Thread nD τ), osem k) 0 ∗ reached ER ((c : Thread nD τ), osem k) 0)
/-- The scratch buffers. -/
def Scr : sProp 𝕄 := iprop(Whole (F := F) c cc0_scratch0 ∗ Whole c cc0_scratch1 ∗ Whole c cc0_scratch2 ∗ Whole c cc0_scratch3 ∗ Whole c cc0_scratch4)
/-- The arguments. -/
def Args : sProp 𝕄 := iprop((((c : Thread nD τ).loc main_arg0) ↦{fullShare} (X c : Buf (Elt F) ((c : Thread nD τ).loc main_arg0))) ∗ (((c : Thread nD τ).loc main_arg1) ↦{fullShare} (W c : Buf (Elt F) ((c : Thread nD τ).loc main_arg1))))

/-- The barrier's cells. -/
abbrev BarPos : sProp 𝕄 := iprop(At (F := F) (barC c) 0 ∗ reached ER (barC (up 0 c)) 0 ∗ reached ER (barC (up 1 c)) 0)

theorem pre_intro : iprop(Opened (F := F) c ∗ Dealt (F := F) c ∗ BarPos (F := F) c ∗ Scr (F := F) c ∗ Args c X W ∗ Owe dueK c ∗ Tbl (F := F) c ∗ OutInv X W c (fun _ => False)) ⊢ Pre X W c := by
  unfold Opened Dealt Scr Args Pre FillIn LaneP
  rw [cells_split, x_eq, w_eq]
  iintro ⟨⟨⟨aW, #rW⟩, ⟨⟨⟨as000, #rs000⟩, ⟨as010, #rs010⟩, ⟨ar010, #rr010⟩, ⟨ar000, #rr000⟩, ⟨af00, #rf00⟩, ⟨ax00, #rx00⟩⟩, ⟨⟨as001, #rs001⟩, ⟨as011, #rs011⟩, ⟨ar011, #rr011⟩, ⟨ar001, #rr001⟩, ⟨af01, #rf01⟩, ⟨ax01, #rx01⟩⟩⟩, ⟨⟨as100, #rs100⟩, ⟨as110, #rs110⟩, ⟨ar110, #rr110⟩, ⟨ar100, #rr100⟩, ⟨af10, #rf10⟩, ⟨ax10, #rx10⟩⟩, ⟨⟨as101, #rs101⟩, ⟨as111, #rs111⟩, ⟨ar111, #rr111⟩, ⟨ar101, #rr101⟩, ⟨af11, #rf11⟩, ⟨ax11, #rx11⟩⟩⟩, ⟨⟨tx00, tx10, tx01, tx11⟩, tw, ⟨cb, tb0, tb1⟩, ⟨⟨ts00, tr00, cr00⟩, ⟨ts10, tr10, cr10⟩, ⟨ts01, tr01, cr01⟩, ⟨ts11, tr11, cr11⟩⟩, HR⟩, ⟨aB, rB0, rB1⟩, ⟨S0, S1, S2, S3, S4⟩, ⟨⟨⟨p00, p01⟩, p10, p11⟩, pw⟩, HO, Ht, Hout⟩
  ihave S0 := (show Whole (F := F) c cc0_scratch0 ⊢ _ from ring_split (F := F) c 0) $$ S0
  icases S0 with ⟨⟨h000, h001⟩, h010, h011⟩
  ihave S1 := (show Whole (F := F) c cc0_scratch1 ⊢ _ from ring_split (F := F) c 1) $$ S1
  icases S1 with ⟨⟨h100, h101⟩, h110, h111⟩
  ihave S3 := (xt_split (F := F) c) $$ S3
  icases S3 with ⟨⟨v00, v01⟩, v10, v11⟩
  ihave S2 := (Entails.of_eq (whole_any (F := F) (sp := .vmem) c cc0_scratch2 (View.set_whole _))) $$ S2
  ihave S4 := (Entails.of_eq (whole_any (F := F) (sp := .vmem) c cc0_scratch4 (View.set_whole _))) $$ S4
  isplitl [tx00 v00 p00 tx10 v10 p10 tx01 v01 p01 tx11 v11 p11]
  · isplitl [tx00 v00 p00]
    · isplitl [tx00]; · iexact tx00
      isplitl [v00]; · iexact v00
      isplitl [p00]; · iexact p00
      iexact rx00
    isplitl [tx10 v10 p10]
    · isplitl [tx10]; · iexact tx10
      isplitl [v10]; · iexact v10
      isplitl [p10]; · iexact p10
      iexact rx10
    isplitl [tx01 v01 p01]
    · isplitl [tx01]; · iexact tx01
      isplitl [v01]; · iexact v01
      isplitl [p01]; · iexact p01
      iexact rx01
    isplitl [tx11]; · iexact tx11
    isplitl [v11]; · iexact v11
    isplitl [p11]; · iexact p11
    iexact rx11
  isplitl [tw S4 pw aW S2]
  · isplitl [tw S4 pw]
    · isplitl [tw]; · iexact tw
      isplitl [S4]; · iexact S4
      isplitl [pw]; · iexact pw
      iexact rW
    isplitl [aW]; · iexact aW
    iexact S2
  isplitl [cb tb0 tb1 aB rB0 rB1]
  · isplitl [cb]; · iexact cb
    isplitl [aB]; · iexact aB
    isplitl [tb0 rB0]
    · isplitl [tb0]; · iexact tb0
      iexact rB0
    isplitl [tb1]; · iexact tb1
    iexact rB1
  isplitl [h010 h011 h110 h111]
  · isplitl [h010 h011]
    · isplitl [h010]
      · isplitl [h010]; · iexact h010
        iexact rr010
      isplitl [h011]; · iexact h011
      iexact rr011
    isplitl [h110]
    · isplitl [h110]; · iexact h110
      iexact rr110
    isplitl [h111]; · iexact h111
    iexact rr111
  isplitr [HR HO Ht Hout]
  · isplitl [ax00 h000 ts00 tr00 cr00 as000 as010 ar010 ar000 af00]
    · isplitl [ax00]; · iexact ax00
      isplitl [h000]; · iexact h000
      isplitl [ts00]; · iexact ts00
      isplitl [tr00]; · iexact tr00
      isplitl [cr00]; · iexact cr00
      isplitl [as000]; · iexact as000
      isplitl [as010]; · iexact as010
      isplitl [ar010]; · iexact ar010
      isplitl [ar000]; · iexact ar000
      isplitl [af00]; · iexact af00
      isplitr; · iexact rs000
      isplitr; · iexact rs010
      isplitr; · iexact rr000
      iexact rf00
    isplitl [ax10 h100 ts10 tr10 cr10 as100 as110 ar110 ar100 af10]
    · isplitl [ax10]; · iexact ax10
      isplitl [h100]; · iexact h100
      isplitl [ts10]; · iexact ts10
      isplitl [tr10]; · iexact tr10
      isplitl [cr10]; · iexact cr10
      isplitl [as100]; · iexact as100
      isplitl [as110]; · iexact as110
      isplitl [ar110]; · iexact ar110
      isplitl [ar100]; · iexact ar100
      isplitl [af10]; · iexact af10
      isplitr; · iexact rs100
      isplitr; · iexact rs110
      isplitr; · iexact rr100
      iexact rf10
    isplitl [ax01 h001 ts01 tr01 cr01 as001 as011 ar011 ar001 af01]
    · isplitl [ax01]; · iexact ax01
      isplitl [h001]; · iexact h001
      isplitl [ts01]; · iexact ts01
      isplitl [tr01]; · iexact tr01
      isplitl [cr01]; · iexact cr01
      isplitl [as001]; · iexact as001
      isplitl [as011]; · iexact as011
      isplitl [ar011]; · iexact ar011
      isplitl [ar001]; · iexact ar001
      isplitl [af01]; · iexact af01
      isplitr; · iexact rs001
      isplitr; · iexact rs011
      isplitr; · iexact rr001
      iexact rf01
    isplitl [ax11]; · iexact ax11
    isplitl [h101]; · iexact h101
    isplitl [ts11]; · iexact ts11
    isplitl [tr11]; · iexact tr11
    isplitl [cr11]; · iexact cr11
    isplitl [as101]; · iexact as101
    isplitl [as111]; · iexact as111
    isplitl [ar111]; · iexact ar111
    isplitl [ar101]; · iexact ar101
    isplitl [af11]; · iexact af11
    isplitr; · iexact rs101
    isplitr; · iexact rs111
    isplitr; · iexact rr101
    iexact rf11
  isplitl [HR]; · iexact HR
  isplitl [HO]; · iexact HO
  isplitl [Ht]; · iexact Ht
  iexact Hout

theorem post_elim : Post X W c ⊢ iprop((bigSep Finset.univ fun k : KK => At (F := F) ((c : Thread nD τ), osem k) (lastR k)) ∗ At (F := F) (barC c) 1 ∗ Scr (F := F) c ∗ Args c X W
    ∗ Owe [] c ∗ Tbl (F := F) c ∗ OutInv X W c (fun _ => True)) := by
  unfold Post LaneEnd Scr Args
  rw [cells_split, x_eq, w_eq]
  iintro ⟨⟨⟨ax00, o00, p00⟩, ⟨ax10, o10, p10⟩, ⟨ax01, o01, p01⟩, ⟨ax11, o11, p11⟩⟩, ⟨⟨aW, oW, pw⟩, Hwb⟩, aB, ⟨⟨⟨⟨h000, h010⟩, as000, as010, ar010, ar000, af00⟩, ⟨⟨h001, h011⟩, as001, as011, ar011, ar001, af01⟩⟩, ⟨⟨h100, h110⟩, as100, as110, ar110, ar100, af10⟩, ⟨⟨h101, h111⟩, as101, as111, ar111, ar101, af11⟩⟩, HO, Ht, Hout⟩
  isplitl [aW as000 as010 ar010 ar000 af00 ax00 as001 as011 ar011 ar001 af01 ax01 as100 as110 ar110 ar100 af10 ax10 as101 as111 ar111 ar101 af11 ax11]
  · isplitl [aW]; · iexact aW
    isplitl [as000 as010 ar010 ar000 af00 ax00 as001 as011 ar011 ar001 af01 ax01]
    · isplitl [as000 as010 ar010 ar000 af00 ax00]
      · isplitl [as000]; · iexact as000
        isplitl [as010]; · iexact as010
        isplitl [ar010]; · iexact ar010
        isplitl [ar000]; · iexact ar000
        isplitl [af00]; · iexact af00
        iexact ax00
      isplitl [as001]; · iexact as001
      isplitl [as011]; · iexact as011
      isplitl [ar011]; · iexact ar011
      isplitl [ar001]; · iexact ar001
      isplitl [af01]; · iexact af01
      iexact ax01
    isplitl [as100 as110 ar110 ar100 af10 ax10]
    · isplitl [as100]; · iexact as100
      isplitl [as110]; · iexact as110
      isplitl [ar110]; · iexact ar110
      isplitl [ar100]; · iexact ar100
      isplitl [af10]; · iexact af10
      iexact ax10
    isplitl [as101]; · iexact as101
    isplitl [as111]; · iexact as111
    isplitl [ar111]; · iexact ar111
    isplitl [ar101]; · iexact ar101
    isplitl [af11]; · iexact af11
    iexact ax11
  isplitl [aB]; · iexact aB
  isplitl [h000 h001 h010 h011 h100 h101 h110 h111 Hwb o00 o01 o10 o11 oW]
  · isplitl [h000 h001 h010 h011]
    · iapply (show _ ⊢ Whole (F := F) c cc0_scratch0 from ring_join (F := F) c 0)
      isplitl [h000 h001]
      · isplitl [h000]; · iexact h000
        iexact h001
      isplitl [h010]; · iexact h010
      iexact h011
    isplitl [h100 h101 h110 h111]
    · iapply (show _ ⊢ Whole (F := F) c cc0_scratch1 from ring_join (F := F) c 1)
      isplitl [h100 h101]
      · isplitl [h100]; · iexact h100
        iexact h101
      isplitl [h110]; · iexact h110
      iexact h111
    isplitl [Hwb]
    · iapply (Entails.of_eq (whole_any (F := F) (sp := .vmem) c cc0_scratch2 (View.set_whole _)).symm)
      iapply (own_any c wbM _) $$ Hwb
    isplitl [o00 o01 o10 o11]
    · iapply (xt_join (F := F) c)
      isplitl [o00 o01]
      · isplitl [o00]; · iapply (own_any c (xtPart (tix 0 0)) _) $$ o00
        iapply (own_any c (xtPart (tix 0 1)) _) $$ o01
      isplitl [o10]; · iapply (own_any c (xtPart (tix 1 0)) _) $$ o10
      iapply (own_any c (xtPart (tix 1 1)) _) $$ o11
    iapply (Entails.of_eq (whole_any (F := F) (sp := .vmem) c cc0_scratch4 (View.set_whole _)).symm)
    iapply (own_any c wtM _) $$ oW
  isplitl [p00 p01 p10 p11 pw]
  · isplitl [p00 p01 p10 p11]
    · isplitl [p00 p01]
      · isplitl [p00]; · iexact p00
        iexact p01
      isplitl [p10]; · iexact p10
      iexact p11
    iexact pw
  isplitl [HO]; · iexact HO
  isplitl [Ht]; · iexact Ht
  iexact Hout

end Mem

end Cert.KernelIdeal.K
-- ==== Proof.Host.lean ====
/-
  The table of neighbours and block owners that the host computes.
-/
module

public import proofs.«01_k».proof.Proof.Compute
public import proofs.«01_k».proof.Proof.Gen.KernelIdeal.Regions
public import Idealize.ShloMosaic.Lib.StableHlo.ReadAt
public import Idealize.ShloMosaic.Lib.DynamicIndex

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F

/-! ### The table the host computes -/

local notation "at1" => Idealize.ShloMosaic.ix1

theorem rm16 (c : Fin 16) : (S16.rowMajor (at1 c)).val = c.val := by revert c; decide
theorem rm15 (t : Fin 15) (c : Fin 16) : (S15x16.rowMajor (Idealize.ShloMosaic.ix2 t c)).val = 16 * t.val + c.val := by revert t c; decide

theorem read16 (l : Fin 16 → BitVec 32) (S : Fin 1 → ℤ) (c : Dev nD) (h0 : S 0 = (c.val : ℤ)) (y : S_.Idx) :
    shapeCast S_ (Host.dynamicSlice S1 (fun i : S16.Idx => l (S16.rowMajor i)) S sliceFits_S16_S1) shapeCasts_S1_S_ y = l c := by
  pointwise
  congr 1
  have e : Host.clampedStart S16 S1 sliceFits_S16_S1.1 S 0 = c.val := Host.clampedStart_of_le _ _ _ _ h0 (by have : c.val < 16 := c.isLt; show c.val + 1 ≤ 16; omega)
  refine Fin.ext ?_
  simp only [e]
  exact rm16 c

theorem read15 (l : Fin 240 → BitVec 32) (S : Fin 2 → ℤ) (c : Dev nD) (h0 : S 0 = ((0 : ℕ) : ℤ)) (h1 : S 1 = (c.val : ℤ)) (t : Fin 15) :
    shapeCast S15 (Host.dynamicSlice S15x1 (fun i : S15x16.Idx => l (S15x16.rowMajor i)) S sliceFits_S15x16_S15x1) shapeCasts_S15x1_S15 (at1 t)
      = l ⟨16 * t.val + c.val, by have : c.val < 16 := c.isLt; have := t.isLt; omega⟩ := by
  pointwise
  congr 1
  have e0 : Host.clampedStart S15x16 S15x1 sliceFits_S15x16_S15x1.1 S 0 = 0 := Host.clampedStart_of_le _ _ _ _ h0 (by decide)
  have e1 : Host.clampedStart S15x16 S15x1 sliceFits_S15x16_S15x1.1 S 1 = c.val := Host.clampedStart_of_le _ _ _ _ h1 (by have : c.val < 16 := c.isLt; show c.val + 1 ≤ 16; omega)
  refine Fin.ext ?_
  simp only [e0, e1, Nat.zero_add]
  exact rm15 t c

theorem dword_toInt (c : Dev nD) : (dword c).toInt = (c.val : ℤ) := by revert c; decide

theorem own_word (c : Dev nD) (y : S_.Idx) : ((id (Host.remui (Host.divui (constantI S_ 32 (Dev.word c)) (constantI S_ 32 1#32)) (constantI S_ 32 16#32))) : IVec S_ 32) y = dword c := by
  show Host.remui (Host.divui (constantI S_ 32 (Dev.word c)) (constantI S_ 32 1#32)) (constantI S_ 32 16#32) y = _
  pointwise
  revert c; decide
theorem sel_word (c : Dev nD) (y : S_.Idx) : (select (cmpi .slt (id (Host.remui (Host.divui (constantI S_ 32 (Dev.word c)) (constantI S_ 32 1#32)) (constantI S_ 32 16#32))) (constantI S_ 32 0#32)) (addi (id (Host.remui (Host.divui (constantI S_ 32 (Dev.word c)) (constantI S_ 32 1#32)) (constantI S_ 32 16#32))) (constantI S_ 32 16#32)) (id (Host.remui (Host.divui (constantI S_ 32 (Dev.word c)) (constantI S_ 32 1#32)) (constantI S_ 32 16#32))) : IVec S_ 32) y = dword c := by
  pointwise
  rw [own_word c y]
  revert c; decide
theorem sel_zero (y : S_.Idx) : (select (cmpi .slt (constantI S_ 32 0#32) (constantI S_ 32 0#32)) (addi (constantI S_ 32 0#32) (constantI S_ 32 15#32)) (constantI S_ 32 0#32) : IVec S_ 32) y = 0#32 := by
  pointwise
  try decide

variable (m : (ℓ : Loc nD τ sig) → Buf (Elt F) ℓ)

theorem w7 (c : Dev nD) : (StableHlo.upto (Gen.hostOps0 c) (Gen.V0 m c) 15 (Proc.tc.devRef main_v7) : Vec F S_ .i32) (Shape.Idx.first h_S_) = dword c := by
  after_reads_simp
  exact sel_word c _
theorem w12 (c : Dev nD) : (StableHlo.upto (Gen.hostOps0 c) (Gen.V0 m c) 22 (Proc.tc.devRef main_v12) : Vec F S_ .i32) (Shape.Idx.first h_S_) = dword c := by
  after_reads_simp
  exact sel_word c _
theorem w20 (c : Dev nD) : (StableHlo.upto (Gen.hostOps0 c) (Gen.V0 m c) 37 (Proc.tc.devRef main_v20) : Vec F S_ .i32) (Shape.Idx.first h_S_) = dword c := by
  after_reads_simp
  exact sel_word c _
theorem w17 (c : Dev nD) : (StableHlo.upto (Gen.hostOps0 c) (Gen.V0 m c) 37 (Proc.tc.devRef main_v17) : Vec F S_ .i32) (Shape.Idx.first h_S_) = 0#32 := by
  after_reads_simp
  exact sel_zero _
theorem w28 (c : Dev nD) : (StableHlo.upto (Gen.hostOps0 c) (Gen.V0 m c) 52 (Proc.tc.devRef main_v28) : Vec F S_ .i32) (Shape.Idx.first h_S_) = dword c := by
  after_reads_simp
  exact sel_word c _
theorem w25 (c : Dev nD) : (StableHlo.upto (Gen.hostOps0 c) (Gen.V0 m c) 52 (Proc.tc.devRef main_v25) : Vec F S_ .i32) (Shape.Idx.first h_S_) = 0#32 := by
  after_reads_simp
  exact sel_zero _
theorem w31 (c : Dev nD) (y : S1.Idx) : (StableHlo.upto (Gen.hostOps0 c) (Gen.V0 m c) 57 (Proc.tc.devRef main_v31) : Vec F S1 .i32) y = dword c := by
  after_reads_simp
  exact own_word c _
theorem w32 (c : Dev nD) (y : S1.Idx) : (StableHlo.upto (Gen.hostOps0 c) (Gen.V0 m c) 57 (Proc.tc.devRef main_v32) : Vec F S1 .i32) y = lit0 c := by
  after_reads_simp
  refine read16 lit0 _ c ?_ _
  · show BitVec.toInt ((StableHlo.upto (Gen.hostOps0 c) (Gen.V0 m c) 15 (Proc.tc.devRef main_v7) : Vec F S_ .i32) (Shape.Idx.first h_S_)) = _
    rw [w7]
    exact dword_toInt c
theorem w33 (c : Dev nD) (y : S1.Idx) : (StableHlo.upto (Gen.hostOps0 c) (Gen.V0 m c) 57 (Proc.tc.devRef main_v33) : Vec F S1 .i32) y = lit1 c := by
  after_reads_simp
  refine read16 lit1 _ c ?_ _
  · show BitVec.toInt ((StableHlo.upto (Gen.hostOps0 c) (Gen.V0 m c) 22 (Proc.tc.devRef main_v12) : Vec F S_ .i32) (Shape.Idx.first h_S_)) = _
    rw [w12]
    exact dword_toInt c
theorem w22 (c : Dev nD) (t : Fin 15) : (StableHlo.upto (Gen.hostOps0 c) (Gen.V0 m c) 58 (Proc.tc.devRef main_v22) : Vec F S15 .i32) (at1 t)
    = lit2 ⟨16 * t.val + c.val, by have : c.val < 16 := c.isLt; have := t.isLt; omega⟩ := by
  after_reads_simp
  refine read15 lit2 _ c ?_ ?_ t
  · show BitVec.toInt ((StableHlo.upto (Gen.hostOps0 c) (Gen.V0 m c) 37 (Proc.tc.devRef main_v17) : Vec F S_ .i32) (Shape.Idx.first h_S_)) = _
    rw [w17]
    rfl
  · show BitVec.toInt ((StableHlo.upto (Gen.hostOps0 c) (Gen.V0 m c) 37 (Proc.tc.devRef main_v20) : Vec F S_ .i32) (Shape.Idx.first h_S_)) = _
    rw [w20]
    exact dword_toInt c
theorem w30 (c : Dev nD) (t : Fin 15) : (StableHlo.upto (Gen.hostOps0 c) (Gen.V0 m c) 58 (Proc.tc.devRef main_v30) : Vec F S15 .i32) (at1 t)
    = lit3 ⟨16 * t.val + c.val, by have : c.val < 16 := c.isLt; have := t.isLt; omega⟩ := by
  after_reads_simp
  refine read15 lit3 _ c ?_ ?_ t
  · show BitVec.toInt ((StableHlo.upto (Gen.hostOps0 c) (Gen.V0 m c) 52 (Proc.tc.devRef main_v25) : Vec F S_ .i32) (Shape.Idx.first h_S_)) = _
    rw [w25]
    rfl
  · show BitVec.toInt ((StableHlo.upto (Gen.hostOps0 c) (Gen.V0 m c) 52 (Proc.tc.devRef main_v28) : Vec F S_ .i32) (Shape.Idx.first h_S_)) = _
    rw [w28]
    exact dword_toInt c

theorem cat3 (a b d : S1.Idx → BitVec 32) (A B D : BitVec 32) (ha : ∀ y, a y = A) (hb : ∀ y, b y = B) (hd : ∀ y, d y = D) (y : S3.Idx) :
    concatenate S3 0 [⟨S1, a⟩, ⟨S1, b⟩, ⟨S1, d⟩] concatenates_S1_S1_S1_S3_d0 y = if (y 0).val = 0 then A else if (y 0).val = 1 then B else D := by
  pointwise
  by_cases h0 : (y 0).val = 0
  · exact ((dif_pos (show (y 0).val < 1 by omega)).trans (ha _)).trans (if_pos h0).symm
  refine (dif_neg (show ¬ (y 0).val < 1 by omega)).trans (Eq.trans ?_ (if_neg h0).symm)
  by_cases h1 : (y 0).val = 1
  · exact ((dif_pos (show (y 0).val - 1 < 1 by omega)).trans (hb _)).trans (if_pos h1).symm
  exact ((dif_neg (show ¬ (y 0).val - 1 < 1 by omega)).trans (hd _)).trans (if_neg h1).symm
theorem w34 (c : Dev nD) (y : S3.Idx) : (StableHlo.upto (Gen.hostOps0 c) (Gen.V0 m c) 58 (Proc.tc.devRef main_v34) : Vec F S3 .i32) y
    = if (y 0).val = 0 then dword c else if (y 0).val = 1 then lit0 c else lit1 c := by
  after_reads_simp
  exact cat3 _ _ _ _ _ _ (w31 m c) (w32 m c) (w33 m c) y

theorem lits (c : Dev nD) : lit0 c = dword (nxt c) ∧ lit1 c = dword (prv c) := by revert c; decide
theorem lit2_eq (c : Dev nD) (t : Fin 15) : lit2 ⟨16 * t.val + c.val, by have : c.val < 16 := c.isLt; have := t.isLt; omega⟩ = dword (cur 0 (t.val + 1) c) := by
  revert c t; decide
theorem lit3_eq (c : Dev nD) (t : Fin 15) : lit3 ⟨16 * t.val + c.val, by have : c.val < 16 := c.isLt; have := t.isLt; omega⟩ = dword (cur 1 (t.val + 1) c) := by
  revert c t; decide

theorem cat33 (c : Dev nD) (a : S3.Idx → BitVec 32) (b d : S15.Idx → BitVec 32)
    (ha : ∀ y, a y = if (y 0).val = 0 then dword c else if (y 0).val = 1 then dword (nxt c) else dword (prv c))
    (hb : ∀ t : Fin 15, b (at1 t) = dword (cur 0 (t.val + 1) c)) (hd : ∀ t : Fin 15, d (at1 t) = dword (cur 1 (t.val + 1) c)) (y : S33.Idx) :
    concatenate S33 0 [⟨S3, a⟩, ⟨S15, b⟩, ⟨S15, d⟩] concatenates_S3_S15_S15_S33_d0 y = dword (tblD c (y 0).val) := by
  have hy : (y 0).val < 33 := (y 0).isLt
  pointwise
  unfold tblD
  by_cases h : (y 0).val < 3
  · refine ((dif_pos h).trans (ha _)).trans ?_
    show (if (y 0).val = 0 then _ else if (y 0).val = 1 then _ else _) = _
    by_cases h0 : (y 0).val = 0
    · rw [if_pos h0, if_pos h0]
    rw [if_neg h0, if_neg h0]
    by_cases h1 : (y 0).val = 1
    · rw [if_pos h1, if_pos h1]
    rw [if_neg h1, if_neg h1, if_pos (by omega)]
  refine (dif_neg h).trans ?_
  by_cases h' : (y 0).val - 3 < 15
  · refine ((dif_pos h').trans (hb ⟨_, h'⟩)).trans ?_
    rw [if_neg (by omega), if_neg (by omega), if_neg (by omega), if_pos (by omega)]
    congr 2
    show (y 0).val - 3 + 1 = _
    omega
  refine ((dif_neg h').trans (hd ⟨_, by omega⟩)).trans ?_
  rw [if_neg (by omega), if_neg (by omega), if_neg (by omega), if_neg (by omega)]
  congr 2
  show (y 0).val - 3 - 15 + 1 = _
  omega

theorem table (c : Dev nD) : Gen.V1 m c main_v35 = tblV c := by
  unfold Gen.V1
  after_reads_simp
  funext y
  exact cat33 c _ _ _ (fun y => (w34 m c y).trans (by rw [(lits c).1, (lits c).2])) (fun t => (w22 m c t).trans (lit2_eq c t)) (fun t => (w30 m c t).trans (lit3_eq c t)) y

end Cert.KernelIdeal.K
-- ==== Proof.Norm.lean ====
/-
  The printed body is the parametric one.
-/
module

public import proofs.«01_k».proof.Proof.Prog

@[expose] public section

noncomputable section

namespace Cert.KernelIdeal.K

open Idealize.ShloMosaic Idealize.SL.Sem
open Cert.KernelIdeal Cert.KernelIdeal.Gen

variable {F : FTy → Type} [FloatOps F]

/-- Two programs that begin with one operation and go on alike are one program. -/
theorem op_congr {E : Type → Type} {α β : Type} {e : E β} {k k' : β → Prog E α} (h : ∀ x, k x = k' x) : Prog.op e k = Prog.op e k' :=
  congrArg _ (funext h)

set_option maxRecDepth 1000000 in
set_option cleanup.letToHave false in
set_option maxHeartbeats 0 in
theorem cc0_body_eq : cc0_body (F := F) tblM (Memref.isWhole_whole _) xM (Memref.isWhole_whole _) wM (Memref.isWhole_whole _) outM (Memref.isWhole_whole _)
    (Memref.whole cc0_scratch0) (Memref.isWhole_whole _) (Memref.whole cc0_scratch1) (Memref.isWhole_whole _) wbM (Memref.isWhole_whole _) xtM (Memref.isWhole_whole _)
    wtM (Memref.isWhole_whole _) cc0_scratch5 cc0_scratch6 cc0_scratch7 cc0_scratch8 cc0_scratch9 cc0_scratch10 cc0_scratch11 cc0_scratch12 = body := by
  repeat (refine op_congr fun x => ?_)
  exact rfl

end Cert.KernelIdeal.K
-- ==== Proof.Region.lean ====
/-
  The kernel call as one region.
-/
module

public import proofs.«01_k».proof.Proof.Pieces
public import proofs.«01_k».proof.Proof.Host
public import proofs.«01_k».proof.Proof.Norm
public import proofs.«01_k».proof.Proof.Gen.KernelIdeal.Points
public import Idealize.ShloMosaic.Lib.Pipeline.FrameBody
public import Idealize.ShloMosaic.Lib.Pipeline.RegionTalk

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F
section Region

variable (m : (ℓ : Loc nD τ sig) → Buf (Elt F) ℓ)

/-- The arguments at launch. -/
def Xm (c : Dev nD) : Vec F S512x8192 .f32 := m ((c : Thread nD τ).loc main_arg0)
def Wm (c : Dev nD) : Vec F S8192x256 .f32 := m ((c : Thread nD τ).loc main_arg1)
/-- What the kernel leaves. -/
def outs : Gen.Outs (F := F) := fun _ r c => Function.update (β := fun r : Ref sig .tc => Buf (Elt F) ((c : Thread nD τ).loc r)) (fun r => m ((c : Thread nD τ).loc r)) main_v36 (G (Xm m) (Wm m) c) r
theorem outs_eq (c : Dev nD) : outs m 2 main_v36 c = G (Xm m) (Wm m) c := Function.update_self _ _ _

theorem V2_out (c : Dev nD) : Gen.V2 m (outs m) c main_v36 = G (Xm m) (Wm m) c := (Function.update_self _ _ _).trans (outs_eq m c)

def PhiIn (c : Dev nD) : sProp 𝕄 :=
  iprop((∃ κ, Ctx (Xm m) (Wm m) κ) ∗ Opened (F := F) c ∗ Dealt (F := F) c ∗ BarPos (F := F) c ∗ Scr (F := F) c ∗ Args c (Xm m) (Wm m) ∗ ∃ r, prngReg c r)
def Tk' (c : Dev nD) : sProp 𝕄 := iprop((∃ κ, Invs (Xm m) (Wm m) κ) ∗ At (F := F) (barC c) 1)
def PhiOut (c : Dev nD) : sProp 𝕄 :=
  iprop(Scr (F := F) c ∗ Args c (Xm m) (Wm m) ∗ Pipeline.ownSems0 osem c ∗ Tk' m c ∗ ∃ r, prngReg c r)

def dat (c : Dev nD) : Pipeline.Dat τ (Elt F) ℕ ℕ UU ℕ (cfgs 0) c where
  A w := match w with
    | 0 => Gen.V1 m c main_v35
    | 1 => Gen.V1 m c main_v36
  after w _ := match w with
    | 0 => tblV c
    | 1 => G (Xm m) (Wm m) c
  Φ t := if t.val = 0 then PhiIn m c else PhiOut m c
  q _ := fullShare
  owed t := if t.val = 0 then owing dueK c else 0

def pdats : (p : Fin 1) → (c : Dev nD) → Pipeline.Dat τ (Elt F) ℕ ℕ UU ℕ (cfgs p) c
  | 0 => dat m

theorem owed_first (c : Dev nD) : (dat m c).owed (t0_0 : Fin (cfgs 0).N).castSucc = owing dueK c := by
  show (if (t0_0 : Fin (cfgs 0).N).castSucc.val = 0 then owing dueK c else 0) = _; exact if_pos rfl
theorem owed_zero (c : Dev nD) : (dat m c).owed 0 = owing dueK c := by
  show (if (0 : Fin ((cfgs 0).N + 1)).val = 0 then owing dueK c else 0) = _; exact if_pos rfl
theorem owed_last (c : Dev nD) : (dat m c).owed (Fin.last _) = 0 := by
  show (if (Fin.last (cfgs 0).N).val = 0 then owing dueK c else 0) = _
  rw [Fin.val_last, if_neg (by rw [show (cfgs 0).N = 1 from N_0]; decide)]
theorem Phi_zero (c : Dev nD) : (dat m c).Φ 0 = PhiIn m c := by
  show (if (0 : Fin ((cfgs 0).N + 1)).val = 0 then PhiIn m c else PhiOut m c) = _; exact if_pos rfl
theorem Phi_last (c : Dev nD) : (dat m c).Φ (Fin.last _) = PhiOut m c := by
  show (if (Fin.last (cfgs 0).N).val = 0 then PhiIn m c else PhiOut m c) = _
  rw [Fin.val_last, if_neg (by rw [show (cfgs 0).N = 1 from N_0]; decide)]

theorem owesAt_intro {cfg : Pipeline.Cfg sig Λ₀} {c : Dev nD} (dt : Pipeline.Dat τ (Elt F) ℕ ℕ UU ℕ cfg c) (t : Fin (cfg.N + 1))
    (O : CellTallies nD τ sig ℕ) (h0 : dt.owed t = O) (V : Waits sig ℕ) (hr : dt.recorded t = Set.univ) :
    (owes (c : Thread nD τ) O V : sProp 𝕄) ⊢ (dt.owesAt 0 t : sProp 𝕄) := by
  unfold Pipeline.Dat.owesAt Pipeline.owesWithin Pipeline.Dat.bound; rw [h0, hr]
  iintro HO; iexists V; isplitr; · ipureintro; exact fun _ _ => Or.inl trivial
  iexact HO
theorem owesAt_elim {cfg : Pipeline.Cfg sig Λ₀} {c : Dev nD} (dt : Pipeline.Dat τ (Elt F) ℕ ℕ UU ℕ cfg c) (t : Fin (cfg.N + 1))
    (O : CellTallies nD τ sig ℕ) (h0 : dt.owed t = O) :
    (dt.owesAt 0 t : sProp 𝕄) ⊢ iprop(∃ V, owes (c : Thread nD τ) O V) := by
  unfold Pipeline.Dat.owesAt Pipeline.owesWithin; rw [h0]
  iintro ⟨%V, -, HO⟩; iexists V; iexact HO

theorem before_tbl (c : Dev nD) (d) : (dat m c).before 0 t0_0 d = tblV c := by
  rw [Pipeline.Dat.before_fetched _ _ _ (fetch0_0 t0_0)]
  funext y
  have hm : ((cfgs 0).win 0).moved ((cfgs 0).grid.coords t0_0) y = true := (((cfgs 0).win 0).moved_iff _ y).mpr fun a => (y a).isLt
  unfold Pipeline.Dat.fetched Pipeline.Window.fill
  rw [dif_pos hm]
  refine (congrFun (table m c) _).trans (congrArg (tblV c) (funext fun a => Fin.ext ?_))
  exact Pipeline.Window.rect_emb_val_of_index_zero ((cfgs 0).win 0) t0_0 a ((by decide +kernel : ∀ a, ((cfgs 0).win 0).index t0_0 a = 0) a) _

/-- The program, its cells closed at the end. -/
theorem body_closed (κ : GSem nD τ sig → ℕ) (c : Dev nD) (Q : PUnit → sProp 𝕄) :
    iprop(Ctx (Xm m) (Wm m) κ ∗ Pre (Xm m) (Wm m) c
      ∗ (iprop(Pipeline.ownSems0 osem c ∗ At (barC c) 1 ∗ Scr (F := F) c ∗ Args c (Xm m) (Wm m) ∗ Owe [] c ∗ Tbl (F := F) c ∗ OutInv (Xm m) (Wm m) c (fun _ => True)) -∗ Q ⟨⟩))
      ⊢ run c body Q := by
  refine BIBase.Entails.trans ?_ (wp_fupd frame (wpE (defs₀ (F := F)) 𝒱₀ (c : Thread nD τ) none) Set.univ body Q)
  iintro ⟨#HC, HP, HQ⟩
  iapply (body_run (Xm m) (Wm m) κ c)
  isplitr; · iexact HC
  isplitl [HP]; · iexact HP
  iintro H
  ihave H := (post_elim c (Xm m) (Wm m)) $$ H
  icases H with ⟨Ha, HB, HS, HA, HO, HT, HV⟩
  icases HC with ⟨#HI, -⟩
  imod (close_cells (Xm m) (Wm m) κ c) $$ [Ha] with Hs
  · isplitr; · iexact HI
    iexact Ha
  imodintro
  iapply HQ
  isplitl [Hs]; · iexact Hs
  isplitl [HB]; · iexact HB
  isplitl [HS]; · iexact HS
  isplitl [HA]; · iexact HA
  isplitl [HO]; · iexact HO
  isplitl [HT]; · iexact HT
  iexact HV

set_option maxRecDepth 100000 in
theorem body_ob (c : Dev nD) : Pipeline.BodyObligation (dat m c) (defs₀ (F := F)) 𝒱₀ 0 Set.univ := fun t => by
  obtain rfl := fin_N0 t
  rw [bigSep_W0, bigSep_W0]
  rw [show (dat m c).Φ t0_0.castSucc = PhiIn m c from Phi_zero m c, show (dat m c).Φ t0_0.succ = PhiOut m c from Phi_last m c]
  show iprop(PhiIn m c ∗ (dat m c).owesAt 0 t0_0.castSucc ∗ (∃ d, Own c tblM fullShare ((dat m c).before 0 t0_0 d)) ∗ (∃ d, Own c outM fullShare ((dat m c).before 1 t0_0 d)))
    ⊢ wp frame (wpE (defs₀ (F := F)) 𝒱₀ (c : Thread nD τ) none) Set.univ
        (cc0_body (F := F) tblM (Memref.isWhole_whole _) xM (Memref.isWhole_whole _) wM (Memref.isWhole_whole _) outM (Memref.isWhole_whole _)
          (Memref.whole cc0_scratch0) (Memref.isWhole_whole _) (Memref.whole cc0_scratch1) (Memref.isWhole_whole _) wbM (Memref.isWhole_whole _) xtM (Memref.isWhole_whole _)
          wtM (Memref.isWhole_whole _) cc0_scratch5 cc0_scratch6 cc0_scratch7 cc0_scratch8 cc0_scratch9 cc0_scratch10 cc0_scratch11 cc0_scratch12)
        fun _ => iprop(PhiOut m c ∗ (dat m c).owesAt 0 t0_0.succ ∗ Own c tblM fullShare (tblV c) ∗ Own c outM fullShare (G (Xm m) (Wm m) c))
  rw [cc0_body_eq]
  show _ ⊢ run c body _
  unfold PhiIn
  iintro ⟨⟨⟨%κ, #HC⟩, HOp, HD, HB, HS, HA, Hreg⟩, HO, ⟨%d0, Ht⟩, ⟨%d1, Hv⟩⟩
  ihave HO := (owesAt_elim (dat m c) _ _ (owed_first m c)) $$ HO
  ihave Ht := (Entails.of_eq (congrArg (Own c tblM fullShare) (before_tbl m c d0))) $$ Ht
  iapply (body_closed m κ c)
  isplitr; · iexact HC
  isplitl [HOp HD HB HS HA HO Ht Hv]
  · iapply (pre_intro c (Xm m) (Wm m))
    isplitl [HOp]; · iexact HOp
    isplitl [HD]; · iexact HD
    isplitl [HB]; · iexact HB
    isplitl [HS]; · iexact HS
    isplitl [HA]; · iexact HA
    isplitl [HO]; · unfold Owe; iexact HO
    isplitl [Ht]; · unfold Tbl; iexact Ht
    unfold Own OutInv
    icases Hv with ⟨%f, -, Hv⟩
    iexists f
    isplitr; · ipureintro; exact fun _ h => h.elim
    iexact Hv
  iintro ⟨Hs, HB, HS, HA, HO, Ht, Hv⟩
  unfold PhiOut Tk'
  isplitl [Hs HB HS HA Hreg]
  · isplitl [HS]; · iexact HS
    isplitl [HA]; · iexact HA
    isplitl [Hs]; · iexact Hs
    isplitl [HB]
    · isplitr
      · iexists κ; icases HC with ⟨#HI, -⟩; iexact HI
      iexact HB
    iexact Hreg
  isplitl [HO]
  · unfold Owe
    icases HO with ⟨%V, HO⟩
    iapply (owesAt_intro (dat m c) t0_0.succ (owing [] c) (owed_last m c) V rfl)
    iexact HO
  isplitl [Ht]; · unfold Tbl; iexact Ht
  unfold OutInv Own
  icases Hv with ⟨%f, %h, Hv⟩
  iexists f
  isplitr; · ipureintro; exact funext fun y => h y trivial
  iexact Hv

end Region

end Cert.KernelIdeal.K
-- ==== Proof.Launch.lean ====
/-
  The kernel call in the program.
-/
module

public import proofs.«01_k».proof.Proof.Region
public import Idealize.ShloMosaic.Lib.Pipeline.ValueKit.Geometry

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F
section Reg

variable (m : (ℓ : Loc nD τ sig) → Buf (Elt F) ℓ)

/-- What the launch keeps for the kernel. -/
def Tk (c : Dev nD) : sProp 𝕄 :=
  iprop((∃ κ, Invs (Xm m) (Wm m) κ) ∗ BarPos (F := F) c ∗ (bigSep dormS fun sm => openTok (ER (F := F)) ((c : Thread nD τ), sm)) ∗ Dealt (F := F) c)
def Xk (c : Dev nD) : sProp 𝕄 :=
  iprop((∃ κ, Ctx (Xm m) (Wm m) κ) ∗ Opened (F := F) c ∗ Dealt (F := F) c ∗ BarPos (F := F) c)

theorem hopen (c : Dev nD) : iprop(Tk m c ∗ Pipeline.ownSems0 osem c ∗ levAts (SiteBlocks.L NL) SiteBlocks.lv) ⊢ (|={Set.univ}=> Xk m c : sProp 𝕄) := by
  unfold Tk Xk
  iintro ⟨⟨⟨%κ, #HI⟩, HB, Ho, HD⟩, Hs, #Hl⟩
  imod (open_cells (Xm m) (Wm m) κ c) $$ [Ho Hs] with H
  · isplitr; · iexact HI
    isplitl [Ho]; · iexact Ho
    iexact Hs
  imodintro
  isplitr
  · iexists κ
    isplitr; · iexact HI
    iexact Hl
  isplitl [H]; · iexact H
  isplitl [HD]; · iexact HD
  iexact HB

/-- The buffers the kernel addresses itself. -/
abbrev Hs : Finset (DevRef τ sig) := {Proc.devRef .tc main_arg0, Proc.devRef .tc main_arg1}
abbrev Sr : Finset (DevRef τ sig) := Pipeline.ucRefs τ sig \ Pipeline.arrRefs (τ := τ) spec0

theorem held_Hs (c : Dev nD) (V : Valuation τ sig (Elt F)) (h0 : V (Proc.devRef .tc main_arg0) = m ((c : Thread nD τ).loc main_arg0)) (h1 : V (Proc.devRef .tc main_arg1) = m ((c : Thread nD τ).loc main_arg1)) :
    (StableHlo.held (c.tc : Thread nD τ) Hs V : sProp 𝕄) = Args c (Xm m) (Wm m) := by
  unfold StableHlo.held Args
  rw [BI.bigSep_insert (by decide), BI.bigSep_singleton, h0, h1]
  rfl

theorem hin (c : Dev nD) : iprop(Pipeline.scopedRest (Pipeline.pin (pcfgs (F := F)) adm 0).spec c ∗ (∃ r, prngReg c r) ∗ StableHlo.held (c.tc : Thread nD τ) Hs (Gen.V1 m c) ∗ Xk m c)
    ⊢ (pdats m 0 c).Φ 0 := by
  rw [show (pdats m 0 c).Φ 0 = PhiIn m c from Phi_zero m c, held_Hs m c (Gen.V1 m c) (V1_of m c main_arg0 (by decide)) (V1_of m c main_arg1 (by decide)),
    show (Pipeline.scopedRest (Pipeline.pin (pcfgs (F := F)) adm 0).spec c : sProp 𝕄) = Scr c from scopedRest0_eq c]
  unfold Xk PhiIn
  iintro ⟨Hs, Hp, HA, HC, HO, HD, HB⟩
  isplitl [HC]; · iexact HC
  isplitl [HO]; · iexact HO
  isplitl [HD]; · iexact HD
  isplitl [HB]; · iexact HB
  isplitl [Hs]; · iexact Hs
  isplitl [HA]; · iexact HA
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Gen.V2 m (outs m) c) ∗ Pipeline.ownSems0 osem c ∗ Tk' m c) := by
  rw [show (pdats m 0 c).Φ (Fin.last _) = PhiOut m c from Phi_last m c, held_Hs m c (Gen.V2 m (outs m) c) (V2_main_arg0 m (outs m) c) (V2_main_arg1 m (outs m) c),
    show (Pipeline.scopedRest (Pipeline.pin (pcfgs (F := F)) adm 0).spec c : sProp 𝕄) = Scr c from scopedRest0_eq c]
  unfold PhiOut
  iintro ⟨Hs, HA, HO, HT, Hp⟩
  isplitl [Hs]; · iexact Hs
  isplitl [Hp]; · iexact Hp
  isplitl [HA]; · iexact HA
  isplitl [HO]; · iexact HO
  iexact HT

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem osem_facts : Pipeline.OwnSemFacts spec0 osem := ⟨by decide +kernel, osem_inj, by decide +kernel⟩

theorem due_pos : ∀ k ∈ dueK, 0 < ixK k ∧ ixK k < NL := by decide +kernel

theorem cutD (c : Dev nD) (t : Fin ((Pipeline.pin (pcfgs (F := F)) adm 0).N + 1)) (g : GSem nD τ sig) (i : ℕ) (h : 0 < (pdats m 0 c).owed t g i) :
    i ∈ SiteBlocks.L NL g ∧ (0 : ℕ) < SiteBlocks.lv g i := by
  have e : (pdats m 0 c).owed t = if t.val = 0 then owing dueK c else 0 := rfl
  rw [e] at h
  split at h
  · obtain ⟨k, hk, rfl, rfl⟩ := pays_pos dueK c h
    exact ⟨SiteBlocks.mem_L' rfl (due_pos k hk).2, (due_pos k hk).1⟩
  · exact absurd h (Nat.lt_irrefl 0)

theorem rest_eq (c : Dev nD) : ∀ b ∈ Sr \ Hs, Gen.V2 m (outs m) c b = Gen.V1 m c b := fun b hb => by
  refine Function.update_of_ne ?_ _ _
  rintro rfl
  exact absurd hb (by decide +kernel)

theorem arr_in (c : Dev nD) : (pdats m 0 c).arrAt 0 (Pipeline.pin (pcfgs (F := F)) adm 0).N = Gen.V1 m c main_v35 :=
  Pipeline.Dat.arrAt_in (dat m c) 0 rfl _
theorem arr_out (c : Dev nD) : (pdats m 0 c).arrAt 1 (Pipeline.pin (pcfgs (F := F)) adm 0).N = G (Xm m) (Wm m) c :=
  Pipeline.Dat.arrAt_eq_of_after_last (dat m c) 1 t0_0 (by decide +kernel) (G (Xm m) (Wm m) c) (fun j => rfl) (Memref.isWhole_whole _)

set_option backward.isDefEq.respectTransparency.types false in
def reg : Pipeline.RegionSeg (pcfgs (F := F)) adm (pdats m) 0 defs₀ 𝒱₀ (SiteBlocks.L NL) SiteBlocks.lv 0 :=
  Pipeline.RegionSeg.ofTalk (pcfgs (F := F)) adm (pdats m) 0 defs₀ 𝒱₀ (SiteBlocks.L NL) SiteBlocks.lv 0 osem osem_facts
    Hs Sr (by decide +kernel) kitP rfl (fun c => (body_ob m c).loose)
    (fun _ => 0) (fun c => owing dueK c) (fun c => (owed_zero m c).trans (zero_add _).symm) (owed_last m) (fun _ => rfl) (fun c w => by fin_cases w <;> rfl)
    (Gen.V1 m) (Gen.V2 m (outs m)) (rest_eq m)
    (Tk m) (Tk' m) (Xk m) (Tk' m) (hopen m) (hin m) (hout m)
    (fun c => by iintro H; imodintro; iexact H)
    (fun _ => 0)
    ⟨fun c w s => SiteBlocks.mem_L' rfl (by decide), fun c w s => Nat.le_refl 0, fun c t g i h => cutD m c t g i h⟩
    (fun _ => iprop(emp))
    (fun c w => by fin_cases w <;> rfl)
    (fun c w => by
      fin_cases w
      · exact (arr_in m c).trans (V2_of m (outs m) c main_v35 (by decide)).symm
      · exact (arr_out m c).trans (V2_out m c).symm)

/-- Between the host's operations and the kernel, and after it. -/
def E0 (c : Dev nD) : sProp 𝕄 := iprop((∃ r, prngReg c r) ∗ Tk m c ∗ ∃ V, owes (c : Thread nD τ) (owing dueK c) V)

theorem reg_pre (c : Dev nD) : iprop(StableHlo.held (c : Thread nD τ) (Pipeline.ucRefs τ sig) (Gen.V1 m c) ∗ E0 m c) ⊢ (reg m).pre c := by
  show _ ⊢ iprop(StableHlo.held (c.tc : Thread nD τ) (Pipeline.arrRefs (τ := τ) (pcfgs (F := F) 0).spec) (Gen.V1 m c) ∗ (∃ r, prngReg c r)
    ∗ (StableHlo.held (c.tc : Thread nD τ) Sr (Gen.V1 m c) ∗ emp) ∗ Tk m c ∗ ∃ Wd, owes (c : Thread nD τ) (0 + owing dueK c) Wd)
  rw [zero_add, StableHlo.held_sub_split (c.tc : Thread nD τ) (show Pipeline.arrRefs (τ := τ) spec0 ⊆ Pipeline.ucRefs τ sig from by decide +kernel) (Gen.V1 m c)]
  unfold E0
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) (Pipeline.ucRefs τ sig) (Gen.V2 m (outs m) c) ∗ Tk' m c) ∗ ∃ V, owes (c : Thread nD τ) (0 : CellTallies nD τ sig ℕ) V) := by
  show iprop(StableHlo.held (c.tc : Thread nD τ) (Pipeline.arrRefs (τ := τ) (pcfgs (F := F) 0).spec) (Gen.V2 m (outs m) c) ∗ (∃ r, prngReg c r)
    ∗ (StableHlo.held (c.tc : Thread nD τ) Sr (Gen.V2 m (outs m) c) ∗ emp) ∗ Tk' m c ∗ ∃ Wd, owes (c : Thread nD τ) 0 Wd) ⊢ _
  rw [StableHlo.held_sub_split (c.tc : Thread nD τ) (show Pipeline.arrRefs (τ := τ) spec0 ⊆ Pipeline.ucRefs τ sig from by decide +kernel) (Gen.V2 m (outs m) c)]
  iintro ⟨Ha, -, ⟨Hr, -⟩, HT, HO⟩
  isplitl [Ha Hr HT]
  · isplitl [Ha Hr]
    · isplitl [Ha]; · iexact Ha
      iexact Hr
    iexact HT
  iexact HO

end Reg

end Cert.KernelIdeal.K
-- ==== Proof.Run.lean ====
/-
  The program.
-/
module

public import proofs.«01_k».proof.Proof.Launch
public import Idealize.ShloMosaic.Lib.Quiescent

@[expose] public section

noncomputable section

namespace Cert.KernelIdeal.K

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
local notation "𝕄" => MM F
section Run

variable (m : (ℓ : Loc nD τ sig) → Buf (Elt F) ℓ) (ρ : Dev nD → PrngReg)

/-- Everybody's cells and rights, before anybody owns them. -/
def talk0 : sProp 𝕄 := BI.own ((ER (F := F)) (launchOf fam.S fam.Sd fam.T))
def G0 : Dev nD → sProp 𝕄 := SiteBlocks.onDev 0 (talk0 (F := F))
def u₀ : UU := (initOf (Pipeline.cells cfgs cellOf_inj) (Pipeline.launchToks cfgs cellOf_inj), launchOf fam.S fam.Sd fam.T)

theorem none_due (c : Dev nD) : (Pipeline.launchCred (fun _ => (0 : CellTallies nD τ sig ℕ)) c : sProp 𝕄) = BI.emp := by
  refine (Pipeline.launchCred_of_sum (fun d => owing [] d) (fun d => tallyL (([] : List Kind).map (crd · d))) (owing_sum []) (fun d g hg => absurd rfl hg) c).trans ?_
  rw [TalkSites.cred_tallyL]
  rfl

theorem sems0_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

theorem unscoped_eq : ∀ sm : SemLoc sig, sm.isScoped .tc = false → sm = .reg barS := by decide +kernel

/-- What a device holds at launch beside the cells and rights. -/
def bundle (c : Dev nD) : sProp 𝕄 :=
  iprop(StableHlo.held (c : Thread nD τ) (Pipeline.ucRefs τ sig) (Gen.V0 m c) ∗ Pipeline.launchCred (fun d => owing dueK d) c
    ∗ owes (c : Thread nD τ) (owing dueK c) ∅ ∗ ∃ r, prngReg c r)

abbrev T0 (c : Dev nD) : sProp 𝕄 := iprop(StableHlo.held (c : Thread nD τ) (Pipeline.ucRefs τ sig) (Gen.V0 m c) ∗ E0 m c)
abbrev Tn (c : Dev nD) : sProp 𝕄 := iprop(StableHlo.held (c : Thread nD τ) (Pipeline.ucRefs τ sig) (Gen.V2 m (outs m) c) ∗ Tk' m c)

theorem all_reached (c : Dev nD) : (bigSep Finset.univ fun n : Dev nD => (reached ER (barC n) 0 : sProp 𝕄)) ⊢ reached ER (barC c) 0 :=
  bigSep_elim (Finset.mem_univ c)

theorem T0_intro (c : Dev nD) : iprop(fam.launched (ER (F := F)) (Rd (Xm m) (Wm m)) (fun _ => Finset.univ) c ∗ bundle m c) ⊢ T0 m c := by
  unfold TalkSites.Fam.launched TalkSites.Fam.barPos bundle T0 E0 Tk
  rw [show (Finset.univ : Finset (Fin 1)) = {0} from rfl, BI.bigSep_singleton]
  unfold TalkSites.Fam.rides
  iintro ⟨⟨⟨-, Hat, #HR⟩, HI, Ho, Ht⟩, Hh, Hc, HO, Hp⟩
  isplitl [Hh]; · iexact Hh
  isplitl [Hp]; · iexact Hp
  isplitr [HO]
  · isplitl [HI]; · unfold Invs; iexact HI
    isplitl [Hat]
    · isplitl [Hat]; · iexact Hat
      isplitr
      · iapply (all_reached (F := F) (up 0 c)); iexact HR
      iapply (all_reached (F := F) (up 1 c)); iexact HR
    isplitl [Ho]; · iexact Ho
    iapply (deal (F := F) c)
    isplitl [Ht]; · iexact Ht
    iexact Hc
  iexists ∅; iexact HO

theorem init :
    iprop((bigSep Finset.univ fun c : Dev nD => iprop(unscopedBufs c (fun b => m ((c.tc : Thread nD τ).loc b)) ∗ unscopedSems0 c
          ∗ owes (c.tc : Thread nD τ) (owing dueK c) ∅ ∗ Pipeline.launchCred (fun d => owing dueK d) c ∗ prngReg c (ρ c) ∗ G0 (F := F) c)) ∗ levAts (SiteBlocks.L NL) SiteBlocks.lv)
      ⊢ (|={Set.univ}=> bigSep Finset.univ (T0 m) : sProp 𝕄) := by
  have hcore (c : Dev nD) : iprop(unscopedBufs c (fun b => m ((c.tc : Thread nD τ).loc b)) ∗ unscopedSems0 c
        ∗ owes (c.tc : Thread nD τ) (owing dueK c) ∅ ∗ Pipeline.launchCred (fun d => owing dueK d) c ∗ prngReg c (ρ c) ∗ G0 (F := F) c)
      ⊢ (iprop(bundle m c ∗ ((semVal (barC c) 0 ∗ Pipeline.launchCred (fun _ => (0 : CellTallies nD τ sig ℕ)) c) ∗ G0 (F := F) c)) : sProp 𝕄) := by
    rw [sems0_eq, none_due]
    unfold bundle
    iintro ⟨Hh, Hs, HO, Hc, Hp, HG⟩
    isplitl [Hh HO Hc Hp]
    · isplitl [Hh]; · iapply (Entails.of_eq (Pipeline.unscopedBufs_held (Ix := ℕ) (Name := ℕ) (U := UU) (Lvl := ℕ) c (Gen.V0 m c))); iexact Hh
      isplitl [Hc]; · iexact Hc
      isplitl [HO]; · iexact HO
      iexists (ρ c); iexact Hp
    isplitl [Hs]
    · isplitl [Hs]; · iexact Hs
      iempintro
    iexact HG
  iintro ⟨H, -⟩
  ihave H' := (show (bigSep Finset.univ fun c : Dev nD => iprop(unscopedBufs c (fun b => m ((c.tc : Thread nD τ).loc b)) ∗ unscopedSems0 c
          ∗ owes (c.tc : Thread nD τ) (owing dueK c) ∅ ∗ Pipeline.launchCred (fun d => owing dueK d) c ∗ prngReg c (ρ c) ∗ G0 (F := F) c))
      ⊢ (bigSep Finset.univ fun c : Dev nD => iprop(bundle m c ∗ ((semVal (barC c) 0 ∗ Pipeline.launchCred (fun _ => (0 : CellTallies nD τ sig ℕ)) c) ∗ G0 (F := F) c)) : sProp 𝕄)
      from bigSep_mono fun c _ => hcore c) $$ H
  ihave H2 := (Entails.of_eq (bigSep_sep' _ _ _)) $$ H'
  icases H2 with ⟨HB, H3⟩
  ihave H4 := (Entails.of_eq (bigSep_sep' _ _ _)) $$ H3
  icases H4 with ⟨Hv, HG⟩
  ihave Hu := (show bigSep Finset.univ (G0 (F := F)) ⊢ talk0 from Entails.of_eq (SiteBlocks.bigSep_onDev 0 (talk0 (F := F)))) $$ HG
  imod (show _ ⊢ _ from fam.funds (ER (F := F)) (Rd (Xm m) (Wm m)) (fun g _ h => h) (fun _ => Finset.univ) (Es := Set.univ)) $$ [Hv Hu] with HL
  · isplitl [Hv]; · iexact Hv
    unfold talk0; iexact Hu
  imodintro
  iapply (show (bigSep Finset.univ fun c : Dev nD => iprop(fam.launched (ER (F := F)) (Rd (Xm m) (Wm m)) (fun _ => Finset.univ) c ∗ bundle m c)) ⊢ bigSep Finset.univ (T0 m)
    from bigSep_mono fun c _ => T0_intro m c)
  rw [bigSep_sep']
  isplitl [HL]; · iexact HL
  iexact HB

theorem bar_done (c : Dev nD) : (Rd (Xm m) (Wm m)).duties (barC c) 1 = ∅ := by
  rw [duties_eq, show roleOf (.reg barS) = .bar from role_bar]; rfl

theorem bar_read (c : Dev nD) (s' : Phys nD τ sig (Elt F)) : iprop(Tk' m c ∗ SI s') ⊢ iprop(|={Set.univ}=> (⌜s'.mem.sem (barC c) = 0⌝ ∗ SI s')) := by
  refine BIBase.Entails.trans ?_ (fam.barPos_read (ER (F := F)) (Rd (Xm m) (Wm m)) c (r := 1) (bar_done m c) ∅ s')
  unfold Tk' TalkSites.Fam.barPos Invs
  rw [BI.bigSep_empty]
  iintro ⟨⟨HI, Ha⟩, HS⟩
  isplitl [HI Ha]
  · isplitl [HI]; · iexact HI
    isplitl [Ha]; · iexact Ha
    iempintro
  iexact HS

set_option backward.isDefEq.respectTransparency.types false in
/-- Every run ends, with the arguments as they were, the result the product's, and every counter at zero. -/
theorem run_main [∀ e, Nonempty (Elt F e)] : θ_run defs (onTc (τ := τ) (main (F := F))) ⟨m, fun _ => 0, ρ⟩
    (fun r => (∀ c : Dev nD, r.2.mem ((c.tc : Thread nD τ).loc main_v36) = G (Xm m) (Wm m) c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ 𝒱₀ (SiteBlocks.L NL) SiteBlocks.lv m ρ main
    (segs m 𝒱₀ (SiteBlocks.L NL) SiteBlocks.lv (fun _ => E0 m) 0 (pdats m) (reg m))
    (fun c Q => by
      rewrite [main_chain c, Pipeline.Seg.run_eq_chain,
        show (segs m 𝒱₀ (SiteBlocks.L NL) SiteBlocks.lv (fun _ => E0 m) 0 (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun d => owing dueK d) (SiteBlocks.hL NL) (G0 (F := F)) u₀ ?_
    (T₀ := T0 m) (Tₙ := Tn m)
    (hch := fun c => ⟨.rfl, reg_pre m c, reg_post m c⟩)
    (hinit := init m ρ)
    (QY := fun c s => (s.mem ((c.tc : Thread nD τ).loc main_v36) = G (Xm m) (Wm m) c
        ∧ s.mem ((c.tc : Thread nD τ).loc main_arg0) = m ((c.tc : Thread nD τ).loc main_arg0)
        ∧ s.mem ((c.tc : Thread nD τ).loc main_arg1) = m ((c.tc : Thread nD τ).loc main_arg1)) ∧ s.sem (barC c) = 0)
    (hfin := fun c s' => ?_) (hQ := fun s h hs => ⟨fun c => (h c).1, sem_eq_zero hs fun c sm hsm => ?_⟩)
  · unfold u₀ G0
    iintro Hu
    ihave H := (ownU_pair _ _) $$ Hu
    icases H with ⟨HP, HX⟩
    imodintro
    isplitl [HP]; · iexact HP
    iapply (Entails.of_eq (SiteBlocks.bigSep_onDev 0 (talk0 (F := F))).symm)
    unfold talk0; iexact HX
  · unfold Tn StableHlo.held
    iintro ⟨⟨Hh, HT⟩, HSI⟩
    ihave Hr := (pointsTo_read_all (Pipeline.ucRefs τ sig) (fun b => ((c : Thread nD τ).1, b)) (Gen.V2 m (outs m) c) s') $$ [Hh HSI]
    · isplitl [Hh] <;> iassumption
    icases Hr with ⟨%h, HSI⟩
    imod (bar_read m c s') $$ [HT HSI] with ⟨%hb, HSI⟩
    · isplitl [HT] <;> iassumption
    imodintro
    isplitr
    · ipureintro
      exact ⟨⟨(h (Proc.devRef .tc main_v36) (Finset.mem_filter.mpr ⟨StableHlo.devRef_mem_tcRefs main_v36, by decide⟩)).trans (V2_out m c),
        (h (Proc.devRef .tc main_arg0) (Finset.mem_filter.mpr ⟨StableHlo.devRef_mem_tcRefs main_arg0, by decide⟩)).trans (V2_main_arg0 m (outs m) c),
        (h (Proc.devRef .tc main_arg1) (Finset.mem_filter.mpr ⟨StableHlo.devRef_mem_tcRefs main_arg1, by decide⟩)).trans (V2_main_arg1 m (outs m) c)⟩, hb⟩
    iexact HSI
  · obtain rfl := unscoped_eq sm hsm
    exact (h c).2

end Run

end Cert.KernelIdeal.K
-- ==== Proof.BitsNorm.lean ====
/-
  The printed body is the parametric one.
-/
module

public import proofs.«01_k».proof.Proof.BitsProg

@[expose] public section

noncomputable section

namespace Cert.Kernel.K

open Idealize.ShloMosaic Idealize.SL.Sem
open Cert.Kernel Cert.Kernel.Gen

variable {F : FTy → Type} [FloatOps F]

/-- Two programs that begin with one operation and go on alike are one program. -/
theorem op_congr {E : Type → Type} {α β : Type} {e : E β} {k k' : β → Prog E α} (h : ∀ x, k x = k' x) : Prog.op e k = Prog.op e k' :=
  congrArg _ (funext h)

set_option maxRecDepth 1000000 in
set_option cleanup.letToHave false in
set_option maxHeartbeats 0 in
theorem cc0_body_eq : cc0_body (F := F) tblM (Memref.isWhole_whole _) xM (Memref.isWhole_whole _) wM (Memref.isWhole_whole _) outM (Memref.isWhole_whole _)
    (Memref.whole cc0_scratch0) (Memref.isWhole_whole _) (Memref.whole cc0_scratch1) (Memref.isWhole_whole _) wbM (Memref.isWhole_whole _) xtM (Memref.isWhole_whole _)
    wtM (Memref.isWhole_whole _) cc0_scratch5 cc0_scratch6 cc0_scratch7 cc0_scratch8 cc0_scratch9 cc0_scratch10 cc0_scratch11 cc0_scratch12 = body := by
  repeat (refine op_congr fun x => ?_)
  exact rfl

end Cert.Kernel.K
-- ==== Proof.Value.lean ====
/-
  The result of a device at exact values: its columns of the gelu of the whole product, entry by entry.
-/
module

public import proofs.«01_k».proof.Proof.Base
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.ValueLayout

@[expose] public section

noncomputable section

namespace Cert.KernelIdeal.K

open Idealize.ShloMosaic Idealize.ShloMosaic.ValueIdx
open Cert.KernelIdeal Cert.KernelIdeal.Gen
open scoped BigOperators

/-- The gelu of one exact value, the cube associated to the left of the coefficient. -/
def gel (y : EReal) : EReal :=
  (Ideal.ofBits .f32 0x3F000000#32 * y) *
    (Ideal.ofBits .f32 0x3F800000#32 + Ideal.tanh (Ideal.ofBits .f32 0x3F4C422A#32 * (y + Ideal.ofBits .f32 0x3D372713#32 * ((y * y) * y))))

theorem gelu_apply {s : Shape} (y : FVec Ideal s .f32) (i : s.Idx) : gelu y i = gel (y i) := by
  show (Ideal.ofBits .f32 0x3F000000#32 * y i) *
    (Ideal.ofBits .f32 0x3F800000#32 + Ideal.tanh (Ideal.ofBits .f32 0x3F4C422A#32 * (y i + ((Ideal.ofBits .f32 0x3D372713#32 * y i) * y i) * y i))) = _
  rw [mul_assoc (Ideal.ofBits .f32 0x3D372713#32) (y i) (y i), mul_assoc (Ideal.ofBits .f32 0x3D372713#32) (y i * y i) (y i)]
  rfl

variable (X : Dev nD → Vec Ideal S512x8192 .f32) (W : Dev nD → Vec Ideal S8192x256 .f32)

/-- The entry of the product of block `o`'s row `r` with device `c`'s column `q`. -/
def ent (o c : Dev nD) (r : Fin 512) (q : Fin 256) : EReal := ∑ k : Fin 8192, (X o (ix2 r k) : EReal) * (W c (ix2 k q) : EReal)

theorem payDot_apply (d : Fin 2) (o c : Dev nD) (a : Fin 256) (q : Fin 256) :
    payDot (slotV X d o) (wbV W c) (ix2 a q) = gel (ent X W o c ⟨256 * d.val + a.val, by omega⟩ q) := by
  refine (gelu_apply _ _).trans (congrArg gel ?_)
  refine (Ideal.matmul_plain_apply (M := 256) (K := 8192) (N := 256) none _ _ _ a q).trans ?_
  refine (congrArg₂ (· + ·) Ideal.ofBits_zero_f32 rfl).trans ((zero_add _).trans (Finset.sum_congr rfl fun k _ => ?_))
  refine congrArg₂ (· * ·) ((shapeCast_1ab_ab_apply _ _ a k).trans rfl) rfl

theorem payHalf_apply (d j : Fin 2) (o c : Dev nD) (a : Fin 128) (q : Fin 256) :
    payHalf (halfV X d j o) (wbV W c) (ix2 a q) = gel (ent X W o c ⟨256 * d.val + 128 * j.val + a.val, by omega⟩ q) := by
  refine (gelu_apply _ _).trans (congrArg gel ?_)
  refine (Ideal.matmul_plain_apply (M := 128) (K := 8192) (N := 256) none _ _ _ a q).trans ?_
  refine (congrArg₂ (· + ·) Ideal.ofBits_zero_f32 rfl).trans ((zero_add _).trans (Finset.sum_congr rfl fun k _ => ?_))
  refine congrArg₂ (· * ·) (((shapeCast_1ab_ab_apply _ _ a k).trans (shapeCast_ab_1ab_apply _ _ 0 a k)).trans (rowsV_apply X d j o a k)) rfl

/-- Whichever way an entry was computed, it is the gelu of its entry of the product. -/
theorem G_apply (c : Dev nD) (y : S8192x256.Idx) :
    G X W c y = gel (ent X W ⟨(y 0).val / 512, by have := idx2_lt0 y; show _ < 16; omega⟩ c ⟨(y 0).val % 512, by omega⟩ (y 1)) := by
  unfold G
  simp only []
  split
  · refine (payHalf_apply X W _ _ _ c _ (y 1)).trans ?_
    exact congrArg (fun r => gel (ent X W _ c r _)) (Fin.ext (by
      show 256 * ((y 0).val / 256 % 2) + 128 * ((y 0).val / 128 % 2) + (y 0).val % 128 = (y 0).val % 512; omega))
  · refine (payDot_apply X W _ _ c _ (y 1)).trans ?_
    exact congrArg (fun r => gel (ent X W _ c r _)) (Fin.ext (by
      show 256 * ((y 0).val / 256 % 2) + (y 0).val % 256 = (y 0).val % 512; omega))

/-! ### The reference -/

/-- The whole result, as the reference computes it. -/
def ref (x : FVec Ideal Cert.ReferenceIdeal.S8192x8192 .f32) (w : FVec Ideal Cert.ReferenceIdeal.S8192x4096 .f32) :
    FVec Ideal Cert.ReferenceIdeal.S8192x4096 .f32 :=
  fun i => gel (Host.dotGeneral Cert.ReferenceIdeal.dot_S8192x8192_S8192x4096_S8192x4096_1_0_0_1_n_n none x w i)

theorem ref_apply (x : FVec Ideal Cert.ReferenceIdeal.S8192x8192 .f32) (w : FVec Ideal Cert.ReferenceIdeal.S8192x4096 .f32) (r : Fin 8192) (q : Fin 4096) :
    ref x w (ix2 r q) = gel (∑ k : Fin 8192, (x (ix2 r k) : EReal) * (w (ix2 k q) : EReal)) :=
  congrArg gel (StackMember.dotGeneral_plain_apply (m := 8192) (k := 8192) (n := 4096) none x w r q)

/-- Device `c`'s result is its columns of the reference's. -/
theorem G_block (x : FVec Ideal Cert.ReferenceIdeal.S8192x8192 .f32) (w : FVec Ideal Cert.ReferenceIdeal.S8192x4096 .f32)
    (hX : ∀ o : Dev nD, X o = Layout.block ⟨2, ![512, 8192]⟩ ⟨2, ![8192, 8192]⟩ 0 16 o x)
    (hW : ∀ o : Dev nD, W o = Layout.block ⟨2, ![8192, 256]⟩ ⟨2, ![8192, 4096]⟩ 1 16 o w) (c : Dev nD) :
    G X W c = Layout.block ⟨2, ![8192, 256]⟩ ⟨2, ![8192, 4096]⟩ 1 16 c (ref x w) := by
  funext y
  have h0 : (y 0).val < 8192 := idx2_lt0 y
  have h1 : (y 1).val < 256 := (y 1).isLt
  have hc : c.val < 16 := c.isLt
  have e : (show S8192x256.Idx → EReal from Layout.block ⟨2, ![8192, 256]⟩ ⟨2, ![8192, 4096]⟩ 1 16 c (ref x w)) y = ref x w (ix2 ⟨(y 0).val, h0⟩ ⟨c.val * 256 + (y 1).val, by omega⟩) :=
    congrArg (ref x w) (funext fun a => Fin.ext (by
      match a with
      | ⟨0, _⟩ => rfl
      | ⟨1, _⟩ => rfl))
  refine (G_apply X W c y).trans (Eq.trans ?_ (e.trans (ref_apply x w _ _)).symm)
  refine congrArg gel (Finset.sum_congr rfl fun k _ => ?_)
  rw [hX, hW]
  refine congrArg₂ (· * ·) (congrArg x (funext fun a => Fin.ext ?_)) (congrArg w (funext fun a => Fin.ext ?_))
  · match a with
    | ⟨0, _⟩ => show (y 0).val / 512 * 512 + (y 0).val % 512 = (y 0).val; omega
    | ⟨1, _⟩ => rfl
  · match a with
    | ⟨0, _⟩ => rfl
    | ⟨1, _⟩ => rfl

end Cert.KernelIdeal.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.BitsRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem kernel_frame : Cert.quiescent_Kernel (hKernel := Cert.Kernel.Gen.facts) := fun m g _ =>
  (θ_run Cert.Kernel.defs _ _).mono (fun _ h => ⟨fun c => (h.1 c).2, h.2⟩) (Cert.Kernel.K.run_main (F := Bits) m g)

theorem ideal_frame : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.K.run_main (F := Ideal) m g)

theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

set_option maxRecDepth 20000 in
theorem algebra : Cert.algebraic_KernelIdeal_ReferenceIdeal (hKernelIdeal := Cert.KernelIdeal.Gen.facts)
    (hReferenceIdeal := Cert.ReferenceIdeal.Gen.facts) := fun m g m' g' _ hm =>
  ⟨Cert.KernelIdeal.K.ref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.K.G_block _ _ _ _ (fun o => (hm o).1) (fun o => (hm o).2) c), (h.1 c).2⟩)
      (Cert.KernelIdeal.K.run_main (F := Ideal) m g),
    (θ_run Cert.ReferenceIdeal.defs _ _).mono (fun _ h => ⟨(h 0).1.trans (funext fun _ => rfl), (h 0).2⟩)
      (Cert.ReferenceIdeal.Value.run (F := Ideal) m' g')⟩

theorem claim : Cert.Claim := ⟨Cert.Kernel.Gen.facts, Cert.KernelIdeal.Gen.facts, Cert.ReferenceIdeal.Gen.facts,
  kernel_frame, ideal_frame, reference_frame, trivial, algebra⟩

end Cert.Proof

end
